-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnReference (m : (ℓ : Loc Cert.FfnReference.nD Cert.FfnReference.τ Cert.FfnReference.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeReference (m : (ℓ : Loc Cert.MergeReference.nD Cert.MergeReference.τ Cert.MergeReference.sig) → Buf (Elt Bits) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_FfnReference [hFfnReference : Cert.FfnReference.Facts] : Prop :=
  ∀ (m : (ℓ : Loc Cert.FfnReference.nD Cert.FfnReference.τ Cert.FfnReference.sig) → Buf (Elt Bits) ℓ) (g : Dev Cert.FfnReference.nD → PrngReg), Pre_FfnReference m →
    θ_run (Cert.FfnReference.defs (F := Bits)) (onTc (τ := Cert.FfnReference.τ) (Cert.FfnReference.main (F := Bits))) ⟨m, fun _ => 0, g⟩ (fun r => (∀ c : Dev Cert.FfnReference.nD,
      r.2.mem ((c.tc : Thread Cert.FfnReference.nD Cert.FfnReference.τ).loc Cert.FfnReference.main_arg0) = m ((c.tc : Thread Cert.FfnReference.nD Cert.FfnReference.τ).loc Cert.FfnReference.main_arg0)
      ∧ r.2.mem ((c.tc : Thread Cert.FfnReference.nD Cert.FfnReference.τ).loc Cert.FfnReference.main_arg1) = m ((c.tc : Thread Cert.FfnReference.nD Cert.FfnReference.τ).loc Cert.FfnReference.main_arg1)
      ∧ r.2.mem ((c.tc : Thread Cert.FfnReference.nD Cert.FfnReference.τ).loc Cert.FfnReference.main_arg2) = m ((c.tc : Thread Cert.FfnReference.nD Cert.FfnReference.τ).loc Cert.FfnReference.main_arg2)
      ∧ r.2.mem ((c.tc : Thread Cert.FfnReference.nD Cert.FfnReference.τ).loc Cert.FfnReference.main_arg3) = m ((c.tc : Thread Cert.FfnReference.nD Cert.FfnReference.τ).loc Cert.FfnReference.main_arg3)
      ∧ r.2.mem ((c.tc : Thread Cert.FfnReference.nD Cert.FfnReference.τ).loc Cert.FfnReference.main_arg4) = m ((c.tc : Thread Cert.FfnReference.nD Cert.FfnReference.τ).loc Cert.FfnReference.main_arg4)
      ∧ r.2.mem ((c.tc : Thread Cert.FfnReference.nD Cert.FfnReference.τ).loc Cert.FfnReference.main_arg5) = m ((c.tc : Thread Cert.FfnReference.nD Cert.FfnReference.τ).loc Cert.FfnReference.main_arg5)
      ∧ r.2.mem ((c.tc : Thread Cert.FfnReference.nD Cert.FfnReference.τ).loc Cert.FfnReference.main_arg6) = m ((c.tc : Thread Cert.FfnReference.nD Cert.FfnReference.τ).loc Cert.FfnReference.main_arg6)
      ∧ r.2.mem ((c.tc : Thread Cert.FfnReference.nD Cert.FfnReference.τ).loc Cert.FfnReference.main_arg7) = m ((c.tc : Thread Cert.FfnReference.nD Cert.FfnReference.τ).loc Cert.FfnReference.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_MergeReference [hMergeReference : Cert.MergeReference.Facts] : Prop :=
  ∀ (m : (ℓ : Loc Cert.MergeReference.nD Cert.MergeReference.τ Cert.MergeReference.sig) → Buf (Elt Bits) ℓ) (g : Dev Cert.MergeReference.nD → PrngReg), Pre_MergeReference m →
    θ_run (Cert.MergeReference.defs (F := Bits)) (onTc (τ := Cert.MergeReference.τ) (Cert.MergeReference.main (F := Bits))) ⟨m, fun _ => 0, g⟩ (fun r => (∀ c : Dev Cert.MergeReference.nD,
      r.2.mem ((c.tc : Thread Cert.MergeReference.nD Cert.MergeReference.τ).loc Cert.MergeReference.main_arg0) = m ((c.tc : Thread Cert.MergeReference.nD Cert.MergeReference.τ).loc Cert.MergeReference.main_arg0)
      ∧ r.2.mem ((c.tc : Thread Cert.MergeReference.nD Cert.MergeReference.τ).loc Cert.MergeReference.main_arg1) = m ((c.tc : Thread Cert.MergeReference.nD Cert.MergeReference.τ).loc Cert.MergeReference.main_arg1)
      ∧ r.2.mem ((c.tc : Thread Cert.MergeReference.nD Cert.MergeReference.τ).loc Cert.MergeReference.main_arg2) = m ((c.tc : Thread Cert.MergeReference.nD Cert.MergeReference.τ).loc Cert.MergeReference.main_arg2)
      ∧ r.2.mem ((c.tc : Thread Cert.MergeReference.nD Cert.MergeReference.τ).loc Cert.MergeReference.main_arg3) = m ((c.tc : Thread Cert.MergeReference.nD Cert.MergeReference.τ).loc Cert.MergeReference.main_arg3)
      ∧ r.2.mem ((c.tc : Thread Cert.MergeReference.nD Cert.MergeReference.τ).loc Cert.MergeReference.main_arg4) = m ((c.tc : Thread Cert.MergeReference.nD Cert.MergeReference.τ).loc Cert.MergeReference.main_arg4)
      ∧ r.2.mem ((c.tc : Thread Cert.MergeReference.nD Cert.MergeReference.τ).loc Cert.MergeReference.main_arg5) = m ((c.tc : Thread Cert.MergeReference.nD Cert.MergeReference.τ).loc Cert.MergeReference.main_arg5)
      ∧ r.2.mem ((c.tc : Thread Cert.MergeReference.nD Cert.MergeReference.τ).loc Cert.MergeReference.main_arg6) = m ((c.tc : Thread Cert.MergeReference.nD Cert.MergeReference.τ).loc Cert.MergeReference.main_arg6)
      ∧ r.2.mem ((c.tc : Thread Cert.MergeReference.nD Cert.MergeReference.τ).loc Cert.MergeReference.main_arg7) = m ((c.tc : Thread Cert.MergeReference.nD Cert.MergeReference.τ).loc Cert.MergeReference.main_arg7)
      ∧ r.2.mem ((c.tc : Thread Cert.MergeReference.nD Cert.MergeReference.τ).loc Cert.MergeReference.main_arg8) = m ((c.tc : Thread Cert.MergeReference.nD Cert.MergeReference.τ).loc Cert.MergeReference.main_arg8))
      ∧ r.2.sem = fun _ => 0)

def preserves_Ffn_FfnIdeal : Prop :=
  IdealRules.named_const.Statement Cert.FfnIdeal.κ "sqrt_half" .f32 0x3F3504F3#32 (((Real.sqrt 2)⁻¹ : ℝ) : EReal)

def preserves_FfnReference_FfnReferenceIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v65) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_Merge_MergeIdeal : Prop :=
  True

def preserves_MergeReference_MergeReferenceIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v47) = v0 c
          ∧ r.2.mem ((c.tc : Thread Cert.MergeReferenceIdeal.nD Cert.MergeReferenceIdeal.τ).loc Cert.MergeReferenceIdeal.main_v49) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def Claim : Prop :=
  ∃ (hFfn : Cert.Ffn.Facts) (hFfnIdeal : Cert.FfnIdeal.Facts) (hFfnReferenceIdeal : Cert.FfnReferenceIdeal.Facts) (hFfnReference : Cert.FfnReference.Facts) (hMerge : Cert.Merge.Facts) (hMergeIdeal : Cert.MergeIdeal.Facts) (hMergeReferenceIdeal : Cert.MergeReferenceIdeal.Facts) (hMergeReference : Cert.MergeReference.Facts),
    quiescent_Ffn (hFfn := hFfn)
    ∧ quiescent_FfnIdeal (hFfnIdeal := hFfnIdeal)
    ∧ quiescent_FfnReferenceIdeal (hFfnReferenceIdeal := hFfnReferenceIdeal)
    ∧ quiescent_FfnReference (hFfnReference := hFfnReference)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeReference (hMergeReference := hMergeReference)
    ∧ preserves_Ffn_FfnIdeal
    ∧ preserves_FfnReference_FfnReferenceIdeal
    ∧ algebraic_FfnIdeal_FfnReferenceIdeal (hFfnIdeal := hFfnIdeal) (hFfnReferenceIdeal := hFfnReferenceIdeal)
    ∧ preserves_Merge_MergeIdeal
    ∧ preserves_MergeReference_MergeReferenceIdeal
    ∧ algebraic_MergeIdeal_MergeReferenceIdeal (hMergeIdeal := hMergeIdeal) (hMergeReferenceIdeal := hMergeReferenceIdeal)
-- ==== Ffn.lean ====
abbrev S16384x1024 : Shape := ⟨2, ![16384, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S8x6144 : Shape := ⟨2, ![8, 6144]⟩
abbrev S1x1024 : Shape := ⟨2, ![1, 1024]⟩
abbrev S512x1024 : Shape := ⟨2, ![512, 1024]⟩
abbrev S16x1024 : Shape := ⟨2, ![16, 1024]⟩
abbrev S8x1024 : Shape := ⟨2, ![8, 1024]⟩
abbrev S528x1024 : Shape := ⟨2, ![528, 1024]⟩
abbrev S2x2x2x528x128 : Shape := ⟨5, ![2, 2, 2, 528, 128]⟩
abbrev S512x2816 : Shape := ⟨2, ![512, 2816]⟩
abbrev S8x512x128 : Shape := ⟨3, ![8, 512, 128]⟩
abbrev S1024x256 : Shape := ⟨2, ![1024, 256]⟩
abbrev S528x256 : Shape := ⟨2, ![528, 256]⟩
abbrev S528x128 : Shape := ⟨2, ![528, 128]⟩
abbrev S1x1x1x528x128 : Shape := ⟨5, ![1, 1, 1, 528, 128]⟩
abbrev S1x128 : Shape := ⟨2, ![1, 128]⟩
abbrev S256x128 : Shape := ⟨2, ![256, 128]⟩
abbrev S512x1 : Shape := ⟨2, ![512, 1]⟩
abbrev S2816x256 : Shape := ⟨2, ![2816, 256]⟩
abbrev S512x256 : Shape := ⟨2, ![512, 256]⟩
abbrev S1x256x128 : Shape := ⟨3, ![1, 256, 128]⟩
abbrev S512x128 : Shape := ⟨2, ![512, 128]⟩
abbrev S1x512x128 : Shape := ⟨3, ![1, 512, 128]⟩
abbrev S512 : Shape := ⟨1, ![512]⟩

abbrev nBuf : Space → Nat
  | .hbm => 9
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S8x6144, .f32⟩
  | .hbm, ⟨7, _⟩ => ⟨S1x1024, .f32⟩
  | .hbm, ⟨8, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S8x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S528x1024, .bf16⟩
  | .local _ .vmem, ⟨15, _⟩ => ⟨S2x2x2x528x128, .f32⟩
  | .local _ .vmem, ⟨16, _⟩ => ⟨S512x2816, .bf16⟩
  | .local _ .vmem, ⟨17, _⟩ => ⟨S8x512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c0_i32_3329 : BitVec 32 := 0#32
  let v3388 : BitVec 1 := Scalar.cmpi .sgt arg0 c0_i32_3329
  let v3389 : BitVec 32 := Scalar.extui v3388
  let c0_i32_3330 : BitVec 32 := 0#32
  let v3390 : BitVec 1 := Scalar.cmpi .slt arg0 c0_i32_3330
  let v3391 : BitVec 32 := Scalar.extui v3390
  let v3392 : BitVec 32 := Scalar.subi v3389 v3391
  let c8_i32_3328 : BitVec 32 := 8#32
  let c0_i32_3331 : BitVec 32 := 0#32
  let v3393 : BitVec 1 := Scalar.cmpi .sgt c8_i32_3328 c0_i32_3331
  let v3394 : BitVec 32 := Scalar.extui v3393
  let c0_i32_3332 : BitVec 32 := 0#32
  let v3395 : BitVec 1 := Scalar.cmpi .slt c8_i32_3328 c0_i32_3332
  let v3396 : BitVec 32 := Scalar.extui v3395
  let v3397 : BitVec 32 := Scalar.subi v3394 v3396
  let v3398 : BitVec 1 := Scalar.cmpi .ne v3392 v3397
  let v3399 : BitVec 32 := Scalar.remsi arg0 c8_i32_3328
  let c0_i32_3333 : BitVec 32 := 0#32
  let v3400 : BitVec 1 := Scalar.cmpi .ne v3399 c0_i32_3333
  let v3401 : BitVec 1 := Scalar.andi v3398 v3400
  let v3387 : BitVec 32 := Scalar.divsi arg0 c8_i32_3328
  let c1_i32_3334 : BitVec 32 := 1#32
  let v3402 : BitVec 32 := Scalar.subi v3387 c1_i32_3334
  let v3403 : BitVec 32 := Scalar.select v3401 v3402 v3387
  let v3404 : Index := Scalar.indexCast v3403
  let c0_3335 : Index := 0#32
  ![v3404.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnIdeal.lean ====
variable {F : FTy → Type} [FloatOps F] [Named F]
def κ : String → Option EReal := fun
  | "sqrt_half" => some (((Real.sqrt 2)⁻¹ : ℝ) : EReal)
  | _ => none
-- ==== FfnReference.lean ====
abbrev S16384x1024 : Shape := ⟨2, ![16384, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S8x6144 : Shape := ⟨2, ![8, 6144]⟩
abbrev S1x1024 : Shape := ⟨2, ![1, 1024]⟩
abbrev S4x4096x1024 : Shape := ⟨3, ![4, 4096, 1024]⟩
abbrev S4x4096x5632 : Shape := ⟨3, ![4, 4096, 5632]⟩
abbrev S_ : Shape := ⟨0, ![]⟩
abbrev S4x4098x5632 : Shape := ⟨3, ![4, 4098, 5632]⟩
abbrev S5632 : Shape := ⟨1, ![5632]⟩
abbrev S1x1x5632 : Shape := ⟨3, ![1, 1, 5632]⟩
abbrev S4x4096x2816 : Shape := ⟨3, ![4, 4096, 2816]⟩
abbrev S4x1024 : Shape := ⟨2, ![4, 1024]⟩
abbrev S4x1x1024 : Shape := ⟨3, ![4, 1, 1024]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S8x6144, .f32⟩
  | .hbm, ⟨7, _⟩ => ⟨S1x1024, .f32⟩
  | .hbm, ⟨8, _⟩ => ⟨S16384x1024, .f32⟩
  | .hbm, ⟨9, _⟩ => ⟨S4x4096x1024, .f32⟩
  | .hbm, ⟨10, _⟩ => ⟨S1024x5632, .f32⟩
  | .hbm, ⟨11, _⟩ => ⟨S4x4096x5632, .f32⟩
  | .hbm, ⟨12, _⟩ => ⟨S_, .i32⟩
  | .hbm, ⟨13, _⟩ => ⟨S_, .f32⟩
  | .hbm, ⟨14, _⟩ => ⟨S4x4098x5632, .f32⟩
  | .hbm, ⟨15, _⟩ => ⟨S5632, .f32⟩
  | .hbm, ⟨16, _⟩ => ⟨S1x5632, .f32⟩
  | .hbm, ⟨17, _⟩ => ⟨S5632, .f32⟩
  | .hbm, ⟨18, _⟩ => ⟨S4x4096x5632, .f32⟩
  | .hbm, ⟨19, _⟩ => ⟨S1x1x5632, .f32⟩
  | .hbm, ⟨20, _⟩ => ⟨S4x4096x5632, .f32⟩
  | .hbm, ⟨21, _⟩ => ⟨S4x4096x5632, .f32⟩
  | .hbm, ⟨22, _⟩ => ⟨S_, .f32⟩
  | .hbm, ⟨23, _⟩ => ⟨S4x4096x5632, .f32⟩
  | .hbm, ⟨24, _⟩ => ⟨S4x4096x5632, .f32⟩
  | .hbm, ⟨25, _⟩ => ⟨S1x5632, .f32⟩
  | .hbm, ⟨26, _⟩ => ⟨S5632, .f32⟩
  | .hbm, ⟨27, _⟩ => ⟨S4x4096x5632, .f32⟩
  | .hbm, ⟨28, _⟩ => ⟨S1x1x5632, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S1x5632, .f32⟩
  | .hbm, ⟨33, _⟩ => ⟨S5632, .f32⟩
  | .hbm, ⟨34, _⟩ => ⟨S4x4096x5632, .f32⟩
  | .hbm, ⟨35, _⟩ => ⟨S1x1x5632, .f32⟩
  | .hbm, ⟨36, _⟩ => ⟨S4x4096x5632, .f32⟩
  | .hbm, ⟨37, _⟩ => ⟨S4x4096x5632, .f32⟩
  | .hbm, ⟨38, _⟩ => ⟨S4x4096x5632, .f32⟩
  | .hbm, ⟨39, _⟩ => ⟨S1x1x5632, .f32⟩
  | .hbm, ⟨40, _⟩ => ⟨S4x4096x5632, .f32⟩
  | .hbm, ⟨41, _⟩ => ⟨S4x4096x5632, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S_, .f32⟩
  | .hbm, ⟨48, _⟩ => ⟨S_, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S_, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x1024, .f32⟩
  | .hbm, ⟨58, _⟩ => ⟨S4x1x1024, .f32⟩
  | .hbm, ⟨59, _⟩ => ⟨S2816x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | .hbm, ⟨82, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_3 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Merge.lean ====
abbrev S16384x1024 : Shape := ⟨2, ![16384, 1024]⟩
abbrev S16384x256 : Shape := ⟨2, ![16384, 256]⟩
abbrev S16384x2048 : Shape := ⟨2, ![16384, 2048]⟩
abbrev S8x6144 : Shape := ⟨2, ![8, 6144]⟩
abbrev S1x1024 : Shape := ⟨2, ![1, 1024]⟩
abbrev S1024x1024 : Shape := ⟨2, ![1024, 1024]⟩
abbrev S256x1024 : Shape := ⟨2, ![256, 1024]⟩
abbrev S1024x256 : Shape := ⟨2, ![1024, 256]⟩
abbrev S1024x2048 : Shape := ⟨2, ![1024, 2048]⟩
abbrev S8x1024 : Shape := ⟨2, ![8, 1024]⟩
abbrev S3x1024x1024 : Shape := ⟨3, ![3, 1024, 1024]⟩
abbrev S3 : Shape := ⟨1, ![3]⟩
abbrev S1 : Shape := ⟨1, ![1]⟩
abbrev S_ : Shape := ⟨0, ![]⟩
abbrev S1x1024x1024 : Shape := ⟨3, ![1, 1024, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .bf16⟩
  | .hbm, ⟨3, _⟩ => ⟨S16384x2048, .bf16⟩
  | .hbm, ⟨4, _⟩ => ⟨S8x6144, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S1024x1024, .bf16⟩
  | .hbm, ⟨9, _⟩ => ⟨S16384x1024, .f32⟩
  | .hbm, ⟨10, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x2048, .bf16⟩
  | .local _ .vmem, ⟨5, _⟩ => ⟨S1024x2048, .bf16⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S3x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_93 : BitVec 32 := 0#32
  c0_i32_93
def k0_mult2 : BitVec 32 :=
  let c1024_i32_99 : BitVec 32 := 1024#32
  c1024_i32_99
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c3_i32_93 : BitVec 32 := 3#32
  let v148 : BitVec 32 := Scalar.addi arg0 c3_i32_93
  let c1_i32_94 : BitVec 32 := 1#32
  let v149 : BitVec 32 := Scalar.subi v148 c1_i32_94
  let c1024_i32_101 : BitVec 32 := 1024#32
  let v160 : BitVec 32 := Scalar.muli v149 c1024_i32_101
  v160
def k0_off1 (i : grid0.Coords) : Fin 1 → Nat :=
  let arg0 : BitVec 32 := BitVec.ofNat 32 (i 0).val
  let c3_i32_93 : BitVec 32 := 3#32
  let v148 : BitVec 32 := Scalar.addi arg0 c3_i32_93
  let c1_i32_94 : BitVec 32 := 1#32
  let v149 : BitVec 32 := Scalar.subi v148 c1_i32_94
  let c3_i32_95 : BitVec 32 := 3#32
  let c0_i32_96 : BitVec 32 := 0#32
  let v150 : BitVec 1 := Scalar.cmpi .eq c3_i32_95 c0_i32_96
  let c1_i32_97 : BitVec 32 := 1#32
  let v151 : BitVec 32 := Scalar.select v150 c1_i32_97 c3_i32_95
  let v152 : BitVec 32 := Scalar.remsi v149 v151
  let c0_i32_99 : BitVec 32 := 0#32
  let v154 : BitVec 1 := Scalar.cmpi .slt v152 c0_i32_99
  let c0_i32_100 : BitVec 32 := 0#32
  let v155 : BitVec 1 := Scalar.cmpi .slt v151 c0_i32_100
  let v156 : BitVec 1 := Scalar.xori v154 v155
  let c0_i32_98 : BitVec 32 := 0#32
  let v153 : BitVec 1 := Scalar.cmpi .ne v152 c0_i32_98
  let v157 : BitVec 1 := Scalar.andi v156 v153
  let v158 : BitVec 32 := Scalar.addi v152 v151
  let v159 : BitVec 32 := Scalar.select v157 v158 v152
  ![v159.toNat]
def k0_off2 (i : grid0.Coords) : Fin 3 → Nat :=
  let arg0 : BitVec 32 := BitVec.ofNat 32 (i 0).val
  let c3_i32_93 : BitVec 32 := 3#32
  let v148 : BitVec 32 := Scalar.addi arg0 c3_i32_93
  let c1_i32_94 : BitVec 32 := 1#32
  let v149 : BitVec 32 := Scalar.subi v148 c1_i32_94
  let c3_i32_95 : BitVec 32 := 3#32
  let c0_i32_96 : BitVec 32 := 0#32
  let v150 : BitVec 1 := Scalar.cmpi .eq c3_i32_95 c0_i32_96
  let c1_i32_97 : BitVec 32 := 1#32
  let v151 : BitVec 32 := Scalar.select v150 c1_i32_97 c3_i32_95
  let v152 : BitVec 32 := Scalar.remsi v149 v151
  let c0_i32_99 : BitVec 32 := 0#32
  let v154 : BitVec 1 := Scalar.cmpi .slt v152 c0_i32_99
  let c0_i32_100 : BitVec 32 := 0#32
  let v155 : BitVec 1 := Scalar.cmpi .slt v151 c0_i32_100
  let v156 : BitVec 1 := Scalar.xori v154 v155
  let c0_i32_98 : BitVec 32 := 0#32
  let v153 : BitVec 1 := Scalar.cmpi .ne v152 c0_i32_98
  let v157 : BitVec 1 := Scalar.andi v156 v153
  let v158 : BitVec 32 := Scalar.addi v152 v151
  let v159 : BitVec 32 := Scalar.select v157 v158 v152
  let c0_i32_102 : BitVec 32 := 0#32
  let c0_i32_103 : BitVec 32 := 0#32
  ![v159.toNat, 0, 0]
def k0_off3 (i : grid0.Coords) : Fin 2 → Nat :=
  let arg0 : BitVec 32 := BitVec.ofNat 32 (i 0).val
  let c3_i32_93 : BitVec 32 := 3#32
  let v148 : BitVec 32 := Scalar.addi arg0 c3_i32_93
  let c1_i32_94 : BitVec 32 := 1#32
  let v149 : BitVec 32 := Scalar.subi v148 c1_i32_94
  let c1024_i32_101 : BitVec 32 := 1024#32
  let v160 : BitVec 32 := Scalar.muli v149 c1024_i32_101
  let v161 : BitVec 32 := v160
  let c0_i32_104 : BitVec 32 := 0#32
  ![v161.toNat, 0]
def k0_mult4 (i : grid0.Coords) : BitVec 32 :=
  let arg0 : BitVec 32 := BitVec.ofNat 32 (i 0).val
  let c1024_i32 : BitVec 32 := 1024#32
  let v18 : BitVec 32 := Scalar.muli arg0 c1024_i32
  v18
def k0_off4 (i : grid0.Coords) : Fin 1 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![v17.toNat]
def k0_off5 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_8 : BitVec 32 := 0#32
  let c0_i32_9 : BitVec 32 := 0#32
  ![v17.toNat, 0, 0]
def k0_off6 (i : grid0.Coords) : Fin 2 → Nat :=
  let arg0 : BitVec 32 := BitVec.ofNat 32 (i 0).val
  let c1024_i32 : BitVec 32 := 1024#32
  let v18 : BitVec 32 := Scalar.muli arg0 c1024_i32
  let v19 : BitVec 32 := v18
  let c0_i32_10 : BitVec 32 := 0#32
  ![v19.toNat, 0]
def k0_off7 (i : grid0.Coords) : Fin 2 → Nat :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .slt arg0 c0_i32_18
  let v39 : BitVec 32 := Scalar.extui v38
  let v40 : BitVec 32 := Scalar.subi v37 v39
  let c4_i32 : BitVec 32 := 4#32
  let c0_i32_19 : BitVec 32 := 0#32
  let v41 : BitVec 1 := Scalar.cmpi .sgt c4_i32 c0_i32_19
  let v42 : BitVec 32 := Scalar.extui v41
  let c0_i32_20 : BitVec 32 := 0#32
  let v43 : BitVec 1 := Scalar.cmpi .slt c4_i32 c0_i32_20
  let v44 : BitVec 32 := Scalar.extui v43
  let v45 : BitVec 32 := Scalar.subi v42 v44
  let v46 : BitVec 1 := Scalar.cmpi .ne v40 v45
  let v47 : BitVec 32 := Scalar.remsi arg0 c4_i32
  let c0_i32_21 : BitVec 32 := 0#32
  let v48 : BitVec 1 := Scalar.cmpi .ne v47 c0_i32_21
  let v49 : BitVec 1 := Scalar.andi v46 v48
  let v35 : BitVec 32 := Scalar.divsi arg0 c4_i32
  let c1_i32_22 : BitVec 32 := 1#32
  let v50 : BitVec 32 := Scalar.subi v35 c1_i32_22
  let v51 : BitVec 32 := Scalar.select v49 v50 v35
  let v52 : Index := Scalar.indexCast v51
  let c0 : Index := 0#32
  ![v52.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReference.lean ====
abbrev S16384x1024 : Shape := ⟨2, ![16384, 1024]⟩
abbrev S16384x256 : Shape := ⟨2, ![16384, 256]⟩
abbrev S16384x2048 : Shape := ⟨2, ![16384, 2048]⟩
abbrev S8x6144 : Shape := ⟨2, ![8, 6144]⟩
abbrev S1x1024 : Shape := ⟨2, ![1, 1024]⟩
abbrev S1024x1024 : Shape := ⟨2, ![1024, 1024]⟩
abbrev S256x1024 : Shape := ⟨2, ![256, 1024]⟩
abbrev S4x4096x1024 : Shape := ⟨3, ![4, 4096, 1024]⟩
abbrev S4x4096x256 : Shape := ⟨3, ![4, 4096, 256]⟩
abbrev S4x4096x2048 : Shape := ⟨3, ![4, 4096, 2048]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .bf16⟩
  | .hbm, ⟨3, _⟩ => ⟨S16384x2048, .bf16⟩
  | .hbm, ⟨4, _⟩ => ⟨S8x6144, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S1024x1024, .bf16⟩
  | .hbm, ⟨9, _⟩ => ⟨S4x4096x1024, .f32⟩
  | .hbm, ⟨10, _⟩ => ⟨S16384x1024, .f32⟩
  | .hbm, ⟨11, _⟩ => ⟨S4x4096x1024, .f32⟩
  | .hbm, ⟨12, _⟩ => ⟨S16384x256, .f32⟩
  | .hbm, ⟨13, _⟩ => ⟨S4x4096x256, .f32⟩
  | .hbm, ⟨14, _⟩ => ⟨S16384x2048, .f32⟩
  | .hbm, ⟨15, _⟩ => ⟨S4x4096x2048, .f32⟩
  | .hbm, ⟨16, _⟩ => ⟨S4x1024, .f32⟩
  | .hbm, ⟨17, _⟩ => ⟨S4x1x1024, .f32⟩
  | .hbm, ⟨18, _⟩ => ⟨S4x1024, .f32⟩
  | .hbm, ⟨19, _⟩ => ⟨S4x1x1024, .f32⟩
  | .hbm, ⟨20, _⟩ => ⟨S4x1024, .f32⟩
  | .hbm, ⟨21, _⟩ => ⟨S4x1x1024, .f32⟩
  | .hbm, ⟨22, _⟩ => ⟨S4x4096x1024, .f32⟩
  | .hbm, ⟨23, _⟩ => ⟨S1024x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S256x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S1024x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x1x1024, .f32⟩
  | .hbm, ⟨55, _⟩ => ⟨S4x1x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S16384x1024, .f32⟩
  | .hbm, ⟨61, _⟩ => ⟨S4x4096x1024, .bf16⟩
  | .hbm, ⟨62, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Proof.Order.lean ====
/- The token order of the output: a slab whose odd and even rows were stored at a stride, read back whole. -/
module

public import proofs.«01_k».proof.FfnIdeal
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Hand

open Cert.FfnIdeal Idealize.ShloMosaic Idealize.ShloMosaic.TcCoe Idealize.SL.Sem

section
variable {sig : RefSig} {κ : Kind} {sp : Space} {Val : EltTy → Type} {e : EltTy} [∀ e, Nonempty (Val e)]

/-- The index within a parity's rows of a row of the slab. -/
def halfIdx (r q : ℕ) : S1x256x128.Idx :=
  ix3 (n0 := 1) (n1 := 256) (n2 := 128) 0 ⟨r / 2 % 256, Nat.mod_lt _ (by norm_num)⟩ ⟨q % 128, Nat.mod_lt _ (by norm_num)⟩

/-- A slab read back in token order after its odd and its even rows were stored: the odd rows come from the one store, the even rows
    from the other. -/
theorem order_hit (v : View sig κ sp S8x512x128 e) {g : ℕ} {i0 p0 i1 p1 inb} (w1 w0 : S1x256x128.Idx → Val e) (L : List (View.Piece Val S8x512x128 e)) :
    v.readCov (⟨(⟨⟨![g, 1, 0], ![1, 256, 128], ![1, 2, 1], i1⟩, p1⟩ : Rect S8x512x128), w1⟩
        :: ⟨(⟨⟨![g, 0, 0], ![1, 256, 128], ![1, 2, 1], i0⟩, p0⟩ : Rect S8x512x128), w0⟩ :: L)
        (Rect.unit (s := S8x512x128) ![g, 0, 0] ![1, 512, 128] inb).toLoadRect
      = fun z : S1x512x128.Idx => if (z 1).val % 2 = 1 then w1 (halfIdx (z 1).val (z 2).val) else w0 (halfIdx (z 1).val (z 2).val) := by
  rw [View.readCov_eq_canon']
  funext (z : S1x512x128.Idx)
  have z0 : (z 0).val < 1 := (z 0).isLt
  have z1 : (z 1).val < 512 := (z 1).isLt
  have z2 : (z 2).val < 128 := (z 2).isLt
  show View.canon _ ((Rect.unit (s := S8x512x128) ![g, 0, 0] ![1, 512, 128] inb).toLoadRect.idx z) = _
  split
  · rename_i h
    rw [show (Rect.unit (s := S8x512x128) ![g, 0, 0] ![1, 512, 128] inb).toLoadRect.idx z
        = (⟨⟨![g, 1, 0], ![1, 256, 128], ![1, 2, 1], i1⟩, p1⟩ : Rect S8x512x128).emb (halfIdx (z 1).val (z 2).val) from ?_, View.canon_cons_emb]
    funext a
    apply Fin.ext
    match a with
    | ⟨0, _⟩ => show g + 1 * (z 0).val = g + 1 * 0; omega
    | ⟨1, _⟩ => show 0 + 1 * (z 1).val = 1 + 2 * ((z 1).val / 2 % 256); omega
    | ⟨2, _⟩ => show 0 + 1 * (z 2).val = 0 + 1 * ((z 2).val % 128); omega
  · rename_i h
    rw [View.canon_cons_of_not_mem]
    · rw [show (Rect.unit (s := S8x512x128) ![g, 0, 0] ![1, 512, 128] inb).toLoadRect.idx z
          = (⟨⟨![g, 0, 0], ![1, 256, 128], ![1, 2, 1], i0⟩, p0⟩ : Rect S8x512x128).emb (halfIdx (z 1).val (z 2).val) from ?_, View.canon_cons_emb]
      funext a
      apply Fin.ext
      match a with
      | ⟨0, _⟩ => show g + 1 * (z 0).val = g + 1 * 0; omega
      | ⟨1, _⟩ => show 0 + 1 * (z 1).val = 0 + 2 * ((z 1).val / 2 % 256); omega
      | ⟨2, _⟩ => show 0 + 1 * (z 2).val = 0 + 1 * ((z 2).val % 128); omega
    · intro hm
      obtain ⟨k, hk, e1⟩ := (LoadRect.mem_set _).mp hm 1
      replace e1 : 0 + 1 * (z 1).val = 1 + 2 * k := e1
      omega

/-- A buffer read back whole holds what every store into it agrees with, where the stores cover it. -/
theorem whole_of_pieces {n0 n1 : ℕ} {sig : RefSig} {κ : Kind} {sp : Space} (v : View sig κ sp (⟨2, ![n0, n1]⟩ : Shape) e)
    {G : (⟨2, ![n0, n1]⟩ : Shape).Idx → Val e} {L : List (View.Piece Val (⟨2, ![n0, n1]⟩ : Shape) e)}
    (h : View.PiecesOf G L) (hc : ∀ y, ∃ p ∈ L, y ∈ p.1.set) (inb) :
    v.readCov L (Rect.unit (s := (⟨2, ![n0, n1]⟩ : Shape)) ![0, 0] ![n0, n1] inb).toLoadRect = G := by
  rw [View.readCov_eq_canon']
  funext (z : (⟨2, ![n0, n1]⟩ : Shape).Idx)
  show View.canon L ((Rect.unit (s := (⟨2, ![n0, n1]⟩ : Shape)) ![0, 0] ![n0, n1] inb).toLoadRect.idx z) = _
  have e := View.canon_append_of_piecesOf G [] L h z (hc z)
  rw [List.append_nil] at e
  rw [show (Rect.unit (s := (⟨2, ![n0, n1]⟩ : Shape)) ![0, 0] ![n0, n1] inb).toLoadRect.idx z = z from ?_, e]
  funext a
  apply Fin.ext
  match a with
  | ⟨0, _⟩ => show 0 + 1 * (z 0).val = (z 0).val; omega
  | ⟨1, _⟩ => show 0 + 1 * (z 1).val = (z 1).val; omega

end

end Cert.FfnIdeal.Hand
-- ==== Proof.Out.lean ====
module
public import proofs.«01_k».proof.Proof.Order
public import proofs.«01_k».proof.Proof.Gen.FfnIdeal.Value
import all proofs.«01_k».proof.Proof.Gen.FfnIdeal.Frame.RunA
public import Idealize.ShloMosaic.Lib.Pointwise
public import Idealize.ShloMosaic.Lib.Pipeline.ValueKit
public import Idealize.ShloMosaic.Lib.Pipeline.ReadBack

@[expose] public section
set_option maxRecDepth 16384
noncomputable section
namespace Cert.FfnIdeal.Hand
open Cert.FfnIdeal Cert.FfnIdeal.Gen Idealize.ShloMosaic Idealize.ShloMosaic.TcCoe Idealize.SL.Sem
open kernelRun0_A.sl

section
variable {c : Dev nD} {i : grid0.Coords} {arg1 : Memref sig .tc .vmem S512x1024 .bf16} {harg1 : arg1.IsWhole} {arg2 : Memref sig .tc .vmem S16x1024 .bf16} {harg2 : arg2.IsWhole} {arg3 : Memref sig .tc .vmem S512x1024 .f32} {harg3 : arg3.IsWhole} {arg4 : Memref sig .tc .vmem S1024x5632 .bf16} {harg4 : arg4.IsWhole} {arg5 : Memref sig .tc .vmem S3x5632 .f32} {harg5 : arg5.IsWhole} {arg6 : Memref sig .tc .vmem S1x5632 .f32} {harg6 : arg6.IsWhole} {arg7 : Memref sig .tc .vmem S2816x1024 .bf16} {harg7 : arg7.IsWhole} {arg8 : Memref sig .tc .vmem S8x1024 .f32} {harg8 : arg8.IsWhole} {arg9 : Memref sig .tc .vmem S1x1024 .f32} {harg9 : arg9.IsWhole} {arg10 : Memref sig .tc .vmem S512x1024 .f32} {harg10 : arg10.IsWhole} {arg11 : Memref sig .tc .vmem S528x1024 .bf16} {harg11 : arg11.IsWhole} {arg12 : Memref sig .tc .vmem S2x2x2x528x128 .f32} {harg12 : arg12.IsWhole} {arg13 : Memref sig .tc .vmem S512x2816 .bf16} {harg13 : arg13.IsWhole} {arg14 : Memref sig .tc .vmem S8x512x128 .f32} {harg14 : arg14.IsWhole}
  {x0 : Vec Ideal S512x1024 .bf16} {x1 : Vec Ideal S16x1024 .bf16} {x2 : Vec Ideal S512x1024 .f32} {x3 : Vec Ideal S1024x5632 .bf16} {x4 : Vec Ideal S3x5632 .f32} {x5 : Vec Ideal S1x5632 .f32} {x6 : Vec Ideal S2816x1024 .bf16} {x7 : Vec Ideal S8x1024 .f32} {x8 : Vec Ideal S1x1024 .f32}

/-- The down projection of row `r` of the hidden scratch at column `q`, the row and the column being numbers. -/
def dot (V : S512x2816.Idx → EReal) (w : S2816x1024.Idx → EReal) (r q : ℕ) : EReal :=
  ∑ k : Fin 2816, V (ix2 (n0 := 512) (n1 := 2816) ⟨r % 512, Nat.mod_lt _ (by norm_num)⟩ k)
    * w (ix2 (n0 := 2816) (n1 := 1024) k ⟨q % 1024, Nat.mod_lt _ (by norm_num)⟩)

/-- The residual sum at row `r` and column `q` of the tile: the row of the scratch that holds token `r` is `256 (r mod 2) + r / 2`. -/
def resid (V : S512x2816.Idx → EReal) (w : S2816x1024.Idx → EReal) (xr : S512x1024.Idx → EReal) (md : S1x1024.Idx → EReal) (r q : ℕ) : EReal :=
  xr (ix2 (n0 := 512) (n1 := 1024) ⟨r % 512, Nat.mod_lt _ (by norm_num)⟩ ⟨q % 1024, Nat.mod_lt _ (by norm_num)⟩)
    + md (ix2 (n0 := 1) (n1 := 1024) 0 ⟨q % 1024, Nat.mod_lt _ (by norm_num)⟩) * dot V w (r % 2 * 256 + r / 2) q

/-- The residual sum, its dot products spelled out as sums. -/
theorem resid_sums (V : S512x2816.Idx → EReal) (w : S2816x1024.Idx → EReal) (xr : S512x1024.Idx → EReal) (md : S1x1024.Idx → EReal)
    {c t a b q q1 q2 : ℕ} {inb} {x : S512x128.Idx} {ht : t < 512} {ha : a < 512} {hb : b < 512} {hq : q < 1024} {hq1 : q1 < 1024} {hq2 : q2 < 1024}
    (et : t = (x 0).val) (eq : q = c + 1 * (x 1).val) (e1 : q1 = q) (e2 : q2 = q) (ea : a = 256 + (x 0).val / 2) (eb : b = (x 0).val / 2) :
    xr (ix2 (n0 := 512) (n1 := 1024) ⟨t, ht⟩ ⟨q, hq⟩) + md (ix2 (n0 := 1) (n1 := 1024) 0 ⟨q, hq⟩)
        * (if (x 0).val % 2 = 1 then
            ∑ k : Fin 2816, V (ix2 (n0 := 512) (n1 := 2816) ⟨a, ha⟩ k) * w (ix2 (n0 := 2816) (n1 := 1024) k ⟨q1, hq1⟩)
          else ∑ k : Fin 2816, V (ix2 (n0 := 512) (n1 := 2816) ⟨b, hb⟩ k) * w (ix2 (n0 := 2816) (n1 := 1024) k ⟨q2, hq2⟩))
      = (fun j : S512x1024.Idx => resid V w xr md (j 0).val (j 1).val) ((Rect.unit (s := S512x1024) ![0, c] ![512, 128] inb).emb x) := by
  show _ = resid V w xr md (0 + 1 * (x 0).val) (c + 1 * (x 1).val)
  rw [← eq, show 0 + 1 * (x 0).val = t by omega]
  subst e1 e2
  unfold resid dot
  simp only [Nat.mod_eq_of_lt ht, Nat.mod_eq_of_lt hq]
  congr 2
  split
  · rename_i h
    simp only [show (t % 2 * 256 + t / 2) % 512 = a by omega]
  · rename_i h
    simp only [show (t % 2 * 256 + t / 2) % 512 = b by omega]

set_option maxHeartbeats 4000000 in
/-- Every store into the output block, before the norm, holds the residual sum of its rows and columns. -/
theorem resid_pieces (V : S512x2816.Idx → EReal) (md : S1x1024.Idx → EReal)
    (hV : v3407 c i arg1 harg1 arg2 harg2 arg4 harg4 arg5 harg5 arg6 harg6 arg11 arg12 arg13 x0 x1 x3 x4 x5 = V)
    (hmd : r_219 c i arg8 harg8 x7 = md) :
    View.PiecesOf (Val := Elt Ideal) (e := .f32) (fun j : S512x1024.Idx => resid V x6 x2 md (j 0).val (j 1).val) (H9_8 c i arg1 harg1 arg2 harg2 arg3 harg3 arg4 harg4 arg5 harg5 arg6 harg6 arg7 harg7 arg8 harg8 arg11 arg12 arg13 arg14 x0 x1 x2 x3 x4 x5 x6 x7) := by
  unfold H9_8
  iterate 8
    refine ⟨fun (x : S512x128.Idx) => ?_, ?_⟩
    · simp only [
        cst_3336, cst_3341, r_220, r_221, r_222, v3406, v3409, v3410, v3413, v3414, v3417, v3419, v3420, v3421, v3422,
        v3423, v3424, v3425, v3426, v3427, v3428, v3430, v3433, v3434, v3437, v3439, v3440, v3441, v3442, v3443, v3444,
        v3445, v3446, v3447, v3448, v3452, v3453, v3456, v3457, v3460, v3462, v3463, v3464, v3465, v3466, v3467, v3468,
        v3469, v3470, v3471, v3473, v3476, v3477, v3480, v3482, v3483, v3484, v3485, v3486, v3487, v3488, v3489, v3490,
        v3491, v3495, v3496, v3499, v3500, v3503, v3505, v3506, v3507, v3508, v3509, v3510, v3511, v3512, v3513, v3514,
        v3516, v3519, v3520, v3523, v3525, v3526, v3527, v3528, v3529, v3530, v3531, v3532, v3533, v3534, v3538, v3539,
        v3542, v3543, v3546, v3548, v3549, v3550, v3551, v3552, v3553, v3554, v3555, v3556, v3557, v3559, v3562, v3563,
        v3566, v3568, v3569, v3579]
      simp only [HS3_16, HS3_15, HS3_14, HS3_13, HS3_12, HS3_11, HS3_10, HS3_9, HS3_8, HS3_7, HS3_6, HS3_5, HS3_4, HS3_3, HS3_2, HS3_1]
      simp only [↓ order_hit]
      try simp only [
        cst_3336, cst_3341, r_220, r_221, r_222, v3406, v3409, v3410, v3413, v3414, v3417, v3419, v3420, v3421, v3422,
        v3423, v3424, v3425, v3426, v3427, v3428, v3430, v3433, v3434, v3437, v3439, v3440, v3441, v3442, v3443, v3444,
        v3445, v3446, v3447, v3448, v3452, v3453, v3456, v3457, v3460, v3462, v3463, v3464, v3465, v3466, v3467, v3468,
        v3469, v3470, v3471, v3473, v3476, v3477, v3480, v3482, v3483, v3484, v3485, v3486, v3487, v3488, v3489, v3490,
        v3491, v3495, v3496, v3499, v3500, v3503, v3505, v3506, v3507, v3508, v3509, v3510, v3511, v3512, v3513, v3514,
        v3516, v3519, v3520, v3523, v3525, v3526, v3527, v3528, v3529, v3530, v3531, v3532, v3533, v3534, v3538, v3539,
        v3542, v3543, v3546, v3548, v3549, v3550, v3551, v3552, v3553, v3554, v3555, v3556, v3557, v3559, v3562, v3563,
        v3566, v3568, v3569, v3579]
      simp only [hV, hmd, halfIdx]
      try simp only [k0_pay1]
      open_payloads
      pointwise
      simp only [Memref.IsWhole.read_unread]
      have x0 : (x 0).val < 512 := (x 0).isLt
      have x1 : (x 1).val < 128 := (x 1).isLt
      exact resid_sums V x6 x2 md (by omega) (by omega) (by omega) (by omega) (by omega) (by omega)
  exact trivial
end
end Cert.FfnIdeal.Hand
-- ==== Proof.Block.lean ====
/- The output block. -/
module
public import proofs.«01_k».proof.Proof.Out
public import proofs.«01_k».proof.Proof.Gen.FfnIdeal.Value
import all proofs.«01_k».proof.Proof.Gen.FfnIdeal.Frame.RunA
public import Idealize.ShloMosaic.Lib.Pointwise
public import Idealize.ShloMosaic.Lib.Pipeline.ValueKit
public import Idealize.ShloMosaic.Lib.Pipeline.ReadBack

@[expose] public section
set_option maxRecDepth 16384
noncomputable section
namespace Cert.FfnIdeal.Hand
open Cert.FfnIdeal Cert.FfnIdeal.Gen Idealize.ShloMosaic Idealize.ShloMosaic.TcCoe Idealize.SL.Sem
open kernelRun0_A.sl

section
variable {c : Dev nD} {i : grid0.Coords} {arg1 : Memref sig .tc .vmem S512x1024 .bf16} {harg1 : arg1.IsWhole} {arg2 : Memref sig .tc .vmem S16x1024 .bf16} {harg2 : arg2.IsWhole} {arg3 : Memref sig .tc .vmem S512x1024 .f32} {harg3 : arg3.IsWhole} {arg4 : Memref sig .tc .vmem S1024x5632 .bf16} {harg4 : arg4.IsWhole} {arg5 : Memref sig .tc .vmem S3x5632 .f32} {harg5 : arg5.IsWhole} {arg6 : Memref sig .tc .vmem S1x5632 .f32} {harg6 : arg6.IsWhole} {arg7 : Memref sig .tc .vmem S2816x1024 .bf16} {harg7 : arg7.IsWhole} {arg8 : Memref sig .tc .vmem S8x1024 .f32} {harg8 : arg8.IsWhole} {arg9 : Memref sig .tc .vmem S1x1024 .f32} {harg9 : arg9.IsWhole} {arg10 : Memref sig .tc .vmem S512x1024 .f32} {harg10 : arg10.IsWhole} {arg11 : Memref sig .tc .vmem S528x1024 .bf16} {harg11 : arg11.IsWhole} {arg12 : Memref sig .tc .vmem S2x2x2x528x128 .f32} {harg12 : arg12.IsWhole} {arg13 : Memref sig .tc .vmem S512x2816 .bf16} {harg13 : arg13.IsWhole} {arg14 : Memref sig .tc .vmem S8x512x128 .f32} {harg14 : arg14.IsWhole}
  {x0 : Vec Ideal S512x1024 .bf16} {x1 : Vec Ideal S16x1024 .bf16} {x2 : Vec Ideal S512x1024 .f32} {x3 : Vec Ideal S1024x5632 .bf16} {x4 : Vec Ideal S3x5632 .f32} {x5 : Vec Ideal S1x5632 .f32} {x6 : Vec Ideal S2816x1024 .bf16} {x7 : Vec Ideal S8x1024 .f32} {x8 : Vec Ideal S1x1024 .f32}

/-- A column block of the residual sums, read at its own rows and lanes. -/
theorem emb_resid {V : S512x2816.Idx → EReal} {w : S2816x1024.Idx → EReal} {xr : S512x1024.Idx → EReal} {md : S1x1024.Idx → EReal}
    {c : ℕ} {inb} {f : S512x128.Idx → EReal}
    (h : ∀ x : (⟨Rect.unit (s := S512x1024) ![0, c] S512x128.size inb, f⟩ : View.Piece (Elt Ideal) S512x1024 .f32).1.shape.Idx,
      (⟨Rect.unit (s := S512x1024) ![0, c] S512x128.size inb, f⟩ : View.Piece (Elt Ideal) S512x1024 .f32).2 x
        = (fun j : S512x1024.Idx => resid V w xr md (j 0).val (j 1).val)
          ((⟨Rect.unit (s := S512x1024) ![0, c] S512x128.size inb, f⟩ : View.Piece (Elt Ideal) S512x1024 .f32).1.emb x)) :
    f = fun y => resid V w xr md (y 0).val (c + (y 1).val) := by
  funext y
  refine (h y).trans ?_
  show resid V w xr md (0 + 1 * (y 0).val) (c + 1 * (y 1).val) = _
  rw [Nat.zero_add, Nat.one_mul, Nat.one_mul]

/-- A sum over 1024 columns, as the kernel takes it: eight blocks of 128. -/
theorem lanes (g : ℕ → EReal) :
    (∑ q : Fin 128, g q.val + ∑ q : Fin 128, g (128 + q.val) + ∑ q : Fin 128, g (256 + q.val) + ∑ q : Fin 128, g (384 + q.val)
      + ∑ q : Fin 128, g (512 + q.val) + ∑ q : Fin 128, g (640 + q.val) + ∑ q : Fin 128, g (768 + q.val) + ∑ q : Fin 128, g (896 + q.val))
      = ∑ q : Fin 1024, g q.val := by
  rw [Fin.sum_univ_eq_sum_range g 1024, Fin.sum_univ_eq_sum_range g 128, Fin.sum_univ_eq_sum_range (fun q => g (128 + q)) 128,
    Fin.sum_univ_eq_sum_range (fun q => g (256 + q)) 128, Fin.sum_univ_eq_sum_range (fun q => g (384 + q)) 128,
    Fin.sum_univ_eq_sum_range (fun q => g (512 + q)) 128, Fin.sum_univ_eq_sum_range (fun q => g (640 + q)) 128,
    Fin.sum_univ_eq_sum_range (fun q => g (768 + q)) 128, Fin.sum_univ_eq_sum_range (fun q => g (896 + q)) 128,
    show 1024 = 896 + 128 from rfl, Finset.sum_range_add g 896 128, show 896 = 768 + 128 from rfl, Finset.sum_range_add g 768 128,
    show 768 = 640 + 128 from rfl, Finset.sum_range_add g 640 128, show 640 = 512 + 128 from rfl, Finset.sum_range_add g 512 128,
    show 512 = 384 + 128 from rfl, Finset.sum_range_add g 384 128, show 384 = 256 + 128 from rfl, Finset.sum_range_add g 256 128,
    show 256 = 128 + 128 from rfl, Finset.sum_range_add g 128 128]

/-- The norm of row `r` of `y` at column `q`: the row over the root of its mean square, times the weight. -/
def normed (y : ℕ → ℕ → EReal) (fw : S1x1024.Idx → EReal) (r q : ℕ) : EReal :=
  y r q * Ideal.rsqrt ((∑ k : Fin 1024, y r k.val * y r k.val) * Ideal.ofBits .f32 981467136#32 + Ideal.ofBits .f32 897988541#32)
    * fw (ix2 (n0 := 1) (n1 := 1024) 0 ⟨q % 1024, Nat.mod_lt _ (by norm_num)⟩)

/-- What the kernel leaves in an output block: the norm of the residual sums. -/
theorem out_block (V : S512x2816.Idx → EReal) (md : S1x1024.Idx → EReal)
    (hV : v3407 c i arg1 harg1 arg2 harg2 arg4 harg4 arg5 harg5 arg6 harg6 arg11 arg12 arg13 x0 x1 x3 x4 x5 = V)
    (hmd : r_219 c i arg8 harg8 x7 = md) (x : S512x1024.Idx) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x = normed (fun r q => resid V x6 x2 md r q) x8 (x 0).val (x 1).val := by
  unfold out0_A_9
  rw [View.read_writes_junk_eq_canon]
  unfold kernelRun0_A
  dsimp only
  rw [View.canon_cons_unit_lit _ _ _ (by decide)]
  have hp := resid_pieces (harg3 := harg3) (arg14 := arg14) (x2 := x2) (x6 := x6) (harg7 := harg7) V md hV hmd
  have hO : v3579 c i arg1 harg1 arg2 harg2 arg3 harg3 arg4 harg4 arg5 harg5 arg6 harg6 arg7 harg7 arg8 harg8 arg10 arg11
        arg12 arg13 arg14 x0 x1 x2 x3 x4 x5 x6 x7 = fun j : S512x1024.Idx => resid V x6 x2 md (j 0).val (j 1).val := by
    unfold v3579
    exact whole_of_pieces _ hp (View.cover_of_tiledBy _ ![512, 128] (by sl_kernel_rfl)) _
  unfold H9_8 at hp
  obtain ⟨h7, h6, h5, h4, h3, h2, h1, h0, -⟩ := hp
  have e0 := emb_resid h0
  have e1 := emb_resid h1
  have e2 := emb_resid h2
  have e3 := emb_resid h3
  have e4 := emb_resid h4
  have e5 := emb_resid h5
  have e6 := emb_resid h6
  have e7 := emb_resid h7
  simp only [k0_pay2, v3557, v3556, v3555, v3554, v3534, v3533, v3532, v3531, v3514, v3513, v3512, v3511, v3491, v3490, v3489, v3488, v3471, v3470, v3469, v3468, v3448, v3447, v3446, v3445, v3428, v3427, v3426, v3425, e0, e1, e2, e3, e4, e5, e6, e7, hO, v3406, cst_3336]
  clear h0 h1 h2 h3 h4 h5 h6 h7 hO hV e0 e1 e2 e3 e4 e5 e6 e7
  simp only [View.readAt_eq_ld, Memref.IsWhole.read_unread]
  pointwise
  have x1 : (x 1).val < 1024 := (x 1).isLt
  unfold normed
  rw [← lanes (fun q => resid V x6 x2 md (x 0).val q * resid V x6 x2 md (x 0).val q)]
  simp only [Nat.mod_eq_of_lt x1]
  rfl
end
end Cert.FfnIdeal.Hand
-- ==== Proof.Taps.lean ====
/- Reading the projection scratch: a load of every second row of one slab of the scratch `u_s`, over the list of the
   stores made so far. -/
module

public import proofs.«01_k».proof.FfnIdeal
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Hand

open Cert.FfnIdeal Idealize.ShloMosaic Idealize.ShloMosaic.TcCoe Idealize.SL.Sem

/-- The box of a tap: rows `o, o + 2, …` (256 of them) of slab `(p, n, c)` of the scratch. -/
abbrev tapBox (p n c o : ℕ)
    (hu : ∀ a, (![p, n, c, 0, 0] : Fin 5 → ℕ) a + ![1, 1, 1, 528, 128] a ≤ S2x2x2x528x128.size a)
    (h : ∀ a, S256x128.size a = 0 ∨ (![o, 0] : Fin 2 → ℕ) a + (![2, 1] : Fin 2 → ℕ) a * (S256x128.size a - 1) < S528x128.size a)
    (h1 : (![1, 528, 128] : Fin 3 → ℕ) 0 = 1) (h1' : ∀ i : Fin 2, (![1, 528, 128] : Fin 3 → ℕ) i.succ = S528x128.size i)
    (h2 : (![1, 1, 528, 128] : Fin 4 → ℕ) 0 = 1) (h2' : ∀ i : Fin 3, (![1, 1, 528, 128] : Fin 4 → ℕ) i.succ = (![1, 528, 128] : Fin 3 → ℕ) i)
    (h3 : (![1, 1, 1, 528, 128] : Fin 5 → ℕ) 0 = 1)
    (h3' : ∀ i : Fin 4, (![1, 1, 1, 528, 128] : Fin 5 → ℕ) i.succ = (![1, 1, 528, 128] : Fin 4 → ℕ) i)
    (hs : ∀ a, (Rect.unit (s := S2x2x2x528x128) ![p, n, c, 0, 0] ![1, 1, 1, 528, 128] hu).stride a = 1) : LoadRect S2x2x2x528x128 :=
  (Rect.unit (s := S2x2x2x528x128) ![p, n, c, 0, 0] ![1, 1, 1, 528, 128] hu).withinL
    ((((⟨![o, 0], ![256, 128], ![2, 1], h⟩ : LoadRect S528x128).consLift ![1, 528, 128] h1 h1').consLift
      ![1, 1, 528, 128] h2 h2').consLift ![1, 1, 1, 528, 128] h3 h3') hs

section
variable {sig : RefSig} {κ : Kind} {sp : Space} {Val : EltTy → Type} {e : EltTy} [∀ e, Nonempty (Val e)]
variable {p n c o p' n' c' : ℕ} {hu h h1 h1' h2 h2' h3 h3' hs}

/-- The index of a stored slab that a tap reads at the row-major position `q` of its 256 rows of 128 lanes. -/
def slabIdx (o q : ℕ) : S1x1x1x528x128.Idx :=
  ix5 (n0 := 1) (n1 := 1) (n2 := 1) (n3 := 528) (n4 := 128) 0 0 0
    ⟨(o + 2 * (q / 128)) % 528, Nat.mod_lt _ (by norm_num)⟩ ⟨q % 128, Nat.mod_lt _ (by norm_num)⟩

/-- A stored slab as a tap reads it, in a box of any shape of 256 rows of 128 lanes. -/
def tapSlab {α : Type} {sh : Shape} (o : ℕ) (w : S1x1x1x528x128.Idx → α) : sh.Idx → α :=
  fun z => w (slabIdx o (sh.rowMajor z).val)

/-- A tap's box carried to another shape of as many cells. -/
theorem tap_along {α : Type} {sh sh' : Shape} (hn : sh.numel = sh'.numel) (o : ℕ) (w : S1x1x1x528x128.Idx → α) (x : sh.Idx) :
    tapSlab (sh := sh') o w ((Shape.reshapeEquiv hn : sh.Idx → sh'.Idx) x) = tapSlab (sh := sh) o w x := by
  unfold tapSlab
  rw [Shape.rowMajor_reshapeEquiv]

/-- A tap at a row and a lane. -/
theorem tap_at {α : Type} {o : ℕ} (ho : o + 510 < 528) (w : S1x1x1x528x128.Idx → α) (y : S256x128.Idx) :
    tapSlab (sh := S256x128) o w y = w (ix5 (n0 := 1) (n1 := 1) (n2 := 1) (n3 := 528) (n4 := 128) 0 0 0
          ⟨o + 2 * (y 0).val, by have : (y 0).val < 256 := (y 0).isLt; omega⟩ ⟨(y 1).val, (y 1).isLt⟩) := by
  have y0 : (y 0).val < 256 := (y 0).isLt
  have y1 : (y 1).val < 128 := (y 1).isLt
  have e : (S256x128.rowMajor y).val = (y 0).val * 128 + (y 1).val := by
    refine (Shape.rowMajor_val_two (d := ![256, 128]) y).trans ?_
    simp
  unfold tapSlab slabIdx
  rw [e]
  congr 3
  · show (o + 2 * (((y 0).val * 128 + (y 1).val) / 128)) % 528 = o + 2 * (y 0).val
    omega
  · show ((y 0).val * 128 + (y 1).val) % 128 = (y 1).val
    omega

/-- A tap's last row lies within the slab. -/
theorem tap_lt {o : ℕ} (h : ∀ a, S256x128.size a = 0 ∨ (![o, 0] : Fin 2 → ℕ) a + (![2, 1] : Fin 2 → ℕ) a * (S256x128.size a - 1) < S528x128.size a) :
    o + 510 < 528 := by
  have h0 : 256 = 0 ∨ o + 2 * (256 - 1) < 528 := h 0
  omega

/-- A tap reads the store that wrote its slab, when that store is the latest. -/
theorem tap_hit (v : View sig κ sp S2x2x2x528x128 e) (inb)
    (w : (Rect.unit (s := S2x2x2x528x128) ![p, n, c, 0, 0] ![1, 1, 1, 528, 128] inb).shape.Idx → Val e) (L : List (View.Piece Val S2x2x2x528x128 e)) :
    v.readCov (⟨Rect.unit ![p, n, c, 0, 0] ![1, 1, 1, 528, 128] inb, w⟩ :: L) (tapBox p n c o hu h h1 h1' h2 h2' h3 h3' hs)
      = tapSlab o w := by
  rw [View.readCov_eq_canon']
  funext z
  unfold tapSlab
  have ho := tap_lt h
  have z0 : (z 0).val < 1 := (z 0).isLt
  have z1 : (z 1).val < 1 := (z 1).isLt
  have z2 : (z 2).val < 1 := (z 2).isLt
  have z3 : (z 3).val < 256 := (z 3).isLt
  have z4 : (z 4).val < 128 := (z 4).isLt
  have q : ((tapBox p n c o hu h h1 h1' h2 h2' h3 h3' hs).shape.rowMajor z).val = (z 3).val * 128 + (z 4).val := by
    refine (Shape.rowMajor_val_five (d := ![1, 1, 1, 256, 128]) z).trans ?_
    simp only [Fin.isValue, Matrix.cons_val]
    omega
  show View.canon _ ((tapBox p n c o hu h h1 h1' h2 h2' h3 h3' hs).idx z) = _
  rw [q, show (tapBox p n c o hu h h1 h1' h2 h2' h3 h3' hs).idx z
      = (Rect.unit (s := S2x2x2x528x128) ![p, n, c, 0, 0] ![1, 1, 1, 528, 128] inb).emb (slabIdx o ((z 3).val * 128 + (z 4).val)) from ?_,
    View.canon_cons_emb]
  funext a
  apply Fin.ext
  match a with
  | ⟨0, _⟩ => show p + 0 + 1 * (z 0).val = p + 1 * 0; omega
  | ⟨1, _⟩ => show n + 0 + 1 * (z 1).val = n + 1 * 0; omega
  | ⟨2, _⟩ => show c + 0 + 1 * (z 2).val = c + 1 * 0; omega
  | ⟨3, _⟩ => show 0 + o + 2 * (z 3).val = 0 + 1 * ((o + 2 * (((z 3).val * 128 + (z 4).val) / 128)) % 528); omega
  | ⟨4, _⟩ => show 0 + 0 + 1 * (z 4).val = 0 + 1 * (((z 3).val * 128 + (z 4).val) % 128); omega

/-- A tap passes over a store into another slab. -/
theorem tap_skip (v : View sig κ sp S2x2x2x528x128 e) (inb)
    (w : (Rect.unit (s := S2x2x2x528x128) ![p', n', c', 0, 0] ![1, 1, 1, 528, 128] inb).shape.Idx → Val e) (L : List (View.Piece Val S2x2x2x528x128 e))
    (hne : (p == p' && n == n' && c == c') = false) :
    v.readCov (⟨Rect.unit ![p', n', c', 0, 0] ![1, 1, 1, 528, 128] inb, w⟩ :: L) (tapBox p n c o hu h h1 h1' h2 h2' h3 h3' hs)
      = v.readCov L (tapBox p n c o hu h h1 h1' h2 h2' h3 h3' hs) := by
  rw [View.readCov_eq_canon', View.readCov_eq_canon']
  funext j
  refine View.canon_cons_of_not_mem _ _ fun hm => ?_
  have j0 : (j 0).val < 1 := (j 0).isLt
  have j1 : (j 1).val < 1 := (j 1).isLt
  have j2 : (j 2).val < 1 := (j 2).isLt
  obtain ⟨i0, hi0, e0⟩ := (LoadRect.mem_set _).mp hm 0
  obtain ⟨i1, hi1, e1⟩ := (LoadRect.mem_set _).mp hm 1
  obtain ⟨i2, hi2, e2⟩ := (LoadRect.mem_set _).mp hm 2
  replace hi0 : i0 < 1 := hi0
  replace hi1 : i1 < 1 := hi1
  replace hi2 : i2 < 1 := hi2
  replace e0 : p + 0 + 1 * (j 0).val = p' + 1 * i0 := e0
  replace e1 : n + 0 + 1 * (j 1).val = n' + 1 * i1 := e1
  replace e2 : c + 0 + 1 * (j 2).val = c' + 1 * i2 := e2
  have h0 : p = p' := by omega
  have h1 : n = n' := by omega
  have h2 : c = c' := by omega
  simp [h0, h1, h2] at hne
end

end Cert.FfnIdeal.Hand
-- ==== Proof.Hidden.lean ====
/- The hidden scratch: the forty-four stores into it, each a block of the gated unit of the projected and convolved tile. -/
module
public import proofs.«01_k».proof.Proof.Taps
public import proofs.«01_k».proof.Proof.Gen.FfnIdeal.Value
import all proofs.«01_k».proof.Proof.Gen.FfnIdeal.Frame.RunA

@[expose] public section
set_option maxRecDepth 16384
noncomputable section
namespace Cert.FfnIdeal.Hand
open Cert.FfnIdeal Cert.FfnIdeal.Gen Idealize.ShloMosaic Idealize.ShloMosaic.TcCoe Idealize.SL.Sem
open kernelRun0_A.sl

section
variable {c : Dev nD} {i : grid0.Coords} {arg1 : Memref sig .tc .vmem S512x1024 .bf16} {harg1 : arg1.IsWhole} {arg2 : Memref sig .tc .vmem S16x1024 .bf16} {harg2 : arg2.IsWhole} {arg4 : Memref sig .tc .vmem S1024x5632 .bf16} {harg4 : arg4.IsWhole} {arg5 : Memref sig .tc .vmem S3x5632 .f32} {harg5 : arg5.IsWhole} {arg6 : Memref sig .tc .vmem S1x5632 .f32} {harg6 : arg6.IsWhole} {arg11 : Memref sig .tc .vmem S528x1024 .bf16} {arg12 : Memref sig .tc .vmem S2x2x2x528x128 .f32} {arg13 : Memref sig .tc .vmem S512x2816 .bf16}
 {x0 : Vec Ideal S512x1024 .bf16} {x1 : Vec Ideal S16x1024 .bf16} {x3 : Vec Ideal S1024x5632 .bf16} {x4 : Vec Ideal S3x5632 .f32} {x5 : Vec Ideal S1x5632 .f32}

/-- Row `r` and column `q` of the projection of the rows `H` by the weights `w`, the row and the column being numbers. -/
def up (H : S528x1024.Idx → EReal) (w : S1024x5632.Idx → EReal) (r q : ℕ) : EReal :=
  ∑ k : Fin 1024, H (ix2 (n0 := 528) (n1 := 1024) ⟨r % 528, Nat.mod_lt _ (by norm_num)⟩ k)
    * w (ix2 (n0 := 1024) (n1 := 5632) k ⟨q % 5632, Nat.mod_lt _ (by norm_num)⟩)

/-- The constant that the kernel folds into the convolution. -/
abbrev kk : EReal := (Named.named (F := Ideal) (φ := .f32) κ "sqrt_half" 1060439283#32)

/-- The convolution over three rows from `r`, with the constant folded in. -/
def conv (H : S528x1024.Idx → EReal) (w : S1024x5632.Idx → EReal) (cw : S3x5632.Idx → EReal) (cb : S1x5632.Idx → EReal) (r q : ℕ) : EReal :=
  cb (ix2 (n0 := 1) (n1 := 5632) 0 ⟨q % 5632, Nat.mod_lt _ (by norm_num)⟩) * kk
    + cw (ix2 (n0 := 3) (n1 := 5632) 0 ⟨q % 5632, Nat.mod_lt _ (by norm_num)⟩) * kk * up H w r q
    + cw (ix2 (n0 := 3) (n1 := 5632) 1 ⟨q % 5632, Nat.mod_lt _ (by norm_num)⟩) * kk * up H w (r + 1) q
    + cw (ix2 (n0 := 3) (n1 := 5632) 2 ⟨q % 5632, Nat.mod_lt _ (by norm_num)⟩) * kk * up H w (r + 2) q

/-- The gated unit at row `r` and column `q`: row `r` of the scratch is token `2 (r mod 256) + r / 256` of the tile. -/
def gated (H : S528x1024.Idx → EReal) (w : S1024x5632.Idx → EReal) (cw : S3x5632.Idx → EReal) (cb : S1x5632.Idx → EReal) (r q : ℕ) : EReal :=
  conv H w cw cb (14 + r / 256 + 2 * (r % 256)) (q + 2816)
    * (1 + FloatOps.erf (F := Ideal) (φ := .f32) (conv H w cw cb (14 + r / 256 + 2 * (r % 256)) (q + 2816)))
    * conv H w cw cb (14 + r / 256 + 2 * (r % 256)) q

theorem up_eq (H : S528x1024.Idx → EReal) (w : S1024x5632.Idx → EReal) {r q : ℕ} (hr : r < 528) (hq : q < 5632) :
    ∑ k : Fin 1024, H (ix2 (n0 := 528) (n1 := 1024) ⟨r, hr⟩ k) * w (ix2 (n0 := 1024) (n1 := 5632) k ⟨q, hq⟩) = up H w r q := by
  unfold up
  simp only [Nat.mod_eq_of_lt hr, Nat.mod_eq_of_lt hq]

theorem conv_eq (H : S528x1024.Idx → EReal) (w : S1024x5632.Idx → EReal) (cw : S3x5632.Idx → EReal) (cb : S1x5632.Idx → EReal)
    {r r1 r2 q q' : ℕ} (hq : q < 5632) (h1 : r1 = r + 1) (h2 : r2 = r + 2) (h : q' = q) :
    cb (ix2 (n0 := 1) (n1 := 5632) 0 ⟨q, hq⟩) * kk + cw (ix2 (n0 := 3) (n1 := 5632) 0 ⟨q, hq⟩) * kk * up H w r q'
      + cw (ix2 (n0 := 3) (n1 := 5632) 1 ⟨q, hq⟩) * kk * up H w r1 q'
      + cw (ix2 (n0 := 3) (n1 := 5632) 2 ⟨q, hq⟩) * kk * up H w r2 q' = conv H w cw cb r q := by
  subst h1 h2 h
  unfold conv
  simp only [Nat.mod_eq_of_lt hq]

theorem gated_eq (H : S528x1024.Idx → EReal) (w : S1024x5632.Idx → EReal) (cw : S3x5632.Idx → EReal) (cb : S1x5632.Idx → EReal)
    {t q g p c : ℕ} {inb} {x : S256x128.Idx} (ht : t = 14 + (p + 1 * (x 0).val) / 256 + 2 * ((p + 1 * (x 0).val) % 256))
    (hq : q = c + 1 * (x 1).val) (hg : g = q + 2816) :
    conv H w cw cb t g * (1 + FloatOps.erf (F := Ideal) (φ := .f32) (conv H w cw cb t g)) * conv H w cw cb t q
      = (fun j : S512x2816.Idx => gated H w cw cb (j 0).val (j 1).val) ((Rect.unit (s := S512x2816) ![p, c] ![256, 128] inb).emb x) := by
  subst ht hg hq
  rfl

/-- The gated unit, its projections spelled out as sums. -/
theorem gated_sums (H : S528x1024.Idx → EReal) (w : S1024x5632.Idx → EReal) (cw : S3x5632.Idx → EReal) (cb : S1x5632.Idx → EReal)
    {t t1 t2 q g q1 g1 p c : ℕ} {inb} {x : S256x128.Idx} {ht : t < 528} {ht1 : t1 < 528} {ht2 : t2 < 528}
    {hq : q < 5632} {hg : g < 5632} {hq1 : q1 < 5632} {hg1 : g1 < 5632}
    (e1 : t1 = t + 1) (e2 : t2 = t + 2) (eq : q1 = q) (eg : g1 = g)
    (et : t = 14 + (p + 1 * (x 0).val) / 256 + 2 * ((p + 1 * (x 0).val) % 256))
    (ec : q = c + 1 * (x 1).val) (ed : g = q + 2816) :
    (cb (ix2 (n0 := 1) (n1 := 5632) 0 ⟨g, hg⟩) * kk
      + cw (ix2 (n0 := 3) (n1 := 5632) 0 ⟨g, hg⟩) * kk * ∑ k : Fin 1024, H (ix2 (n0 := 528) (n1 := 1024) ⟨t, ht⟩ k) * w (ix2 (n0 := 1024) (n1 := 5632) k ⟨g1, hg1⟩)
      + cw (ix2 (n0 := 3) (n1 := 5632) 1 ⟨g, hg⟩) * kk * ∑ k : Fin 1024, H (ix2 (n0 := 528) (n1 := 1024) ⟨t1, ht1⟩ k) * w (ix2 (n0 := 1024) (n1 := 5632) k ⟨g1, hg1⟩)
      + cw (ix2 (n0 := 3) (n1 := 5632) 2 ⟨g, hg⟩) * kk * ∑ k : Fin 1024, H (ix2 (n0 := 528) (n1 := 1024) ⟨t2, ht2⟩ k) * w (ix2 (n0 := 1024) (n1 := 5632) k ⟨g1, hg1⟩)) * (1 + FloatOps.erf (F := Ideal) (φ := .f32) (cb (ix2 (n0 := 1) (n1 := 5632) 0 ⟨g, hg⟩) * kk
      + cw (ix2 (n0 := 3) (n1 := 5632) 0 ⟨g, hg⟩) * kk * ∑ k : Fin 1024, H (ix2 (n0 := 528) (n1 := 1024) ⟨t, ht⟩ k) * w (ix2 (n0 := 1024) (n1 := 5632) k ⟨g1, hg1⟩)
      + cw (ix2 (n0 := 3) (n1 := 5632) 1 ⟨g, hg⟩) * kk * ∑ k : Fin 1024, H (ix2 (n0 := 528) (n1 := 1024) ⟨t1, ht1⟩ k) * w (ix2 (n0 := 1024) (n1 := 5632) k ⟨g1, hg1⟩)
      + cw (ix2 (n0 := 3) (n1 := 5632) 2 ⟨g, hg⟩) * kk * ∑ k : Fin 1024, H (ix2 (n0 := 528) (n1 := 1024) ⟨t2, ht2⟩ k) * w (ix2 (n0 := 1024) (n1 := 5632) k ⟨g1, hg1⟩))) * (cb (ix2 (n0 := 1) (n1 := 5632) 0 ⟨q, hq⟩) * kk
      + cw (ix2 (n0 := 3) (n1 := 5632) 0 ⟨q, hq⟩) * kk * ∑ k : Fin 1024, H (ix2 (n0 := 528) (n1 := 1024) ⟨t, ht⟩ k) * w (ix2 (n0 := 1024) (n1 := 5632) k ⟨q1, hq1⟩)
      + cw (ix2 (n0 := 3) (n1 := 5632) 1 ⟨q, hq⟩) * kk * ∑ k : Fin 1024, H (ix2 (n0 := 528) (n1 := 1024) ⟨t1, ht1⟩ k) * w (ix2 (n0 := 1024) (n1 := 5632) k ⟨q1, hq1⟩)
      + cw (ix2 (n0 := 3) (n1 := 5632) 2 ⟨q, hq⟩) * kk * ∑ k : Fin 1024, H (ix2 (n0 := 528) (n1 := 1024) ⟨t2, ht2⟩ k) * w (ix2 (n0 := 1024) (n1 := 5632) k ⟨q1, hq1⟩))
      = (fun j : S512x2816.Idx => gated H w cw cb (j 0).val (j 1).val) ((Rect.unit (s := S512x2816) ![p, c] ![256, 128] inb).emb x) := by
  simp only [up_eq]
  rw [conv_eq H w cw cb hg e1 e2 eg, conv_eq H w cw cb hq e1 e2 eq]
  exact gated_eq H w cw cb et ec ed

attribute [local implicit_reducible] Rect.withinL LoadRect.consLift

set_option maxHeartbeats 40000000 in
/-- Every store into the hidden scratch holds the gated unit of its rows and columns. -/
theorem hid_pieces (H : S528x1024.Idx → EReal) (hH : v54 c i arg1 harg1 arg2 harg2 arg11 x0 x1 = H) (hV : v21 c i arg1 harg1 arg2 harg2 arg11 x0 x1 = H) :
    View.PiecesOf (Val := Elt Ideal) (e := .bf16) (fun j : S512x2816.Idx => gated H x3 x4 x5 (j 0).val (j 1).val) (kernelRun0_A.sl.HS2_44 c i arg1 harg1 arg2 harg2 arg4 harg4 arg5 harg5 arg6 harg6 arg11 arg12 x0 x1 x3 x4 x5) := by
  unfold kernelRun0_A.sl.HS2_44
  iterate 44
    refine ⟨fun (x : S256x128.Idx) => ?_, ?_⟩
    · simp only [
        cst_836, cst_3056, r, r_1, r_2, r_3, r_4, r_5, r_6, r_7, r_8, r_9, r_10, r_11, r_12, r_13, r_14, r_15, r_16, r_17, r_18, r_19, r_20,
        r_21, r_22, r_23, r_24, r_25, r_26, r_27, r_28, r_29, r_30, r_31, r_32, r_33, r_34, r_35, r_36, r_37, r_38, r_39, r_40, r_41, r_42,
        r_43, r_44, r_45, r_46, r_47, r_48, r_49, r_50, r_51, r_52, r_53, r_54, r_55, r_56, r_57, r_59, r_60, r_61, r_62, r_63, r_64, r_65,
        r_66, r_67, r_68, r_69, r_70, r_71, r_72, r_73, r_74, r_75, r_76, r_77, r_78, r_79, r_80, r_81, r_82, r_83, r_84, r_85, r_86, r_87,
        r_88, r_89, r_90, r_91, r_92, r_93, r_94, r_95, r_96, r_97, r_98, r_99, r_100, r_101, r_102, r_103, r_104, r_105, r_106, r_107, r_108,
        r_109, r_110, r_111, r_112, r_113, r_114, r_115, r_116, r_118, r_119, r_120, r_121, r_122, r_123, r_124, r_125, r_126, r_127, r_128,
        r_129, r_130, r_131, r_132, r_133, r_134, r_135, r_136, r_137, r_138, r_139, r_140, r_141, r_142, r_143, r_144, r_145, r_146, r_147,
        r_148, r_149, r_150, r_151, r_152, r_153, r_154, r_155, r_156, r_157, r_158, r_159, r_160, r_161, r_162, r_163, r_164, r_165, r_166,
        r_167, r_168, r_169, r_170, r_171, r_172, r_173, r_174, r_175, r_177, r_178, r_179, r_180, r_181, r_182, r_183, r_184, r_185, r_186,
        r_187, r_188, r_189, r_190, r_191, r_192, r_193, r_194, r_195, r_196, r_197, r_198, r_199, r_200, r_201, r_202, r_203, r_204, r_205,
        r_206, r_207, r_208, r_209, r_210, r_211, r_212, r_213, r_214, r_215, r_216, r_217, r_218, v73, v83, v92, v108, v118, v127, v163,
        v198, v215, v225, v234, v250, v260, v269, v305, v340, v379, v389, v398, v414, v424, v433, v469, v504, v521, v531, v540, v556, v566,
        v575, v611, v646, v647, v648, v649, v650, v651, v654, v685, v695, v704, v720, v730, v739, v775, v810, v827, v837, v846, v862, v872,
        v881, v917, v952, v991, v1001, v1010, v1026, v1036, v1045, v1081, v1116, v1133, v1143, v1152, v1168, v1178, v1187, v1223, v1258,
        v1297, v1307, v1316, v1332, v1342, v1351, v1387, v1422, v1439, v1449, v1458, v1474, v1484, v1493, v1529, v1564, v1565, v1566, v1567,
        v1568, v1569, v1572, v1603, v1613, v1622, v1638, v1648, v1657, v1693, v1728, v1745, v1755, v1764, v1780, v1790, v1799, v1835, v1870,
        v1909, v1919, v1928, v1944, v1954, v1963, v1999, v2034, v2051, v2061, v2070, v2086, v2096, v2105, v2141, v2176, v2215, v2225, v2234,
        v2250, v2260, v2269, v2305, v2340, v2357, v2367, v2376, v2392, v2402, v2411, v2447, v2482, v2483, v2484, v2485, v2486, v2487, v2490,
        v2521, v2531, v2540, v2556, v2566, v2575, v2611, v2646, v2663, v2673, v2682, v2698, v2708, v2717, v2753, v2788, v2827, v2837, v2846,
        v2862, v2872, v2881, v2917, v2952, v2969, v2979, v2988, v3004, v3014, v3023, v3059, v3094, v3111, v3121, v3130, v3146, v3156, v3165,
        v3201, v3236, v3253, v3263, v3272, v3288, v3298, v3307, v3343, v3378, v3379, v3380, v3381, v3382, v3383, v3386]
      simp only [HS1_8, HS1_12, HS1_13, HS1_14, HS1_16, HS1_20, HS1_24, HS1_25, HS1_26, HS1_28, HS1_32, HS1_36, HS1_37, HS1_38, HS1_40, HS1_44]
      simp (disch := decide) only [↓ tap_skip, ↓ tap_hit]
      delta LoadRect.valAlong
      simp only [tap_along]
      try simp only [
        cst_14, r_58, r_117, r_176, v23, v24, v27, v28, v31, v34, v35, v38, v39, v42, v45, v46, v49, v50, v657, v658, v661, v662, v665, v668,
        v669, v1575, v1576, v1579, v1580, v1583, v1586, v1587, v2493, v2494, v2497, v2498, v2501, v2504, v2505]
      simp only [hH, hV]
      try simp only [
        k0_pay329, k0_pay323, k0_pay317, k0_pay312, k0_pay306, k0_pay301, k0_pay293, k0_pay281, k0_pay276, k0_pay269,
        k0_pay264, k0_pay245, k0_pay240, k0_pay235, k0_pay222, k0_pay216, k0_pay211, k0_pay203, k0_pay191, k0_pay186,
        k0_pay179, k0_pay174, k0_pay155, k0_pay150, k0_pay145, k0_pay132, k0_pay126, k0_pay121, k0_pay113, k0_pay101,
        k0_pay96, k0_pay89, k0_pay84, k0_pay65, k0_pay60, k0_pay55, k0_pay42, k0_pay36, k0_pay31, k0_pay23]
      open_payloads
      pointwise
      simp (disch := decide) only [tap_at]
      pointwise
      simp only [Memref.IsWhole.read_unread]
      have x0 : (x 0).val < 256 := (x 0).isLt
      have x1 : (x 1).val < 128 := (x 1).isLt
      exact gated_sums H x3 x4 x5 (by omega) (by omega) (by omega) (by omega) (by omega) (by omega) (by omega)
  exact trivial
end
end Cert.FfnIdeal.Hand
-- ==== Proof.Halo.lean ====
/- The tile of activations that the kernel projects: sixteen rows before it, and its own rows. -/
module
public import proofs.«01_k».proof.Proof.Order
public import proofs.«01_k».proof.Proof.Gen.FfnIdeal.Value
import all proofs.«01_k».proof.Proof.Gen.FfnIdeal.Frame.RunA
public import Idealize.ShloMosaic.Lib.Pointwise
public import Idealize.ShloMosaic.Lib.Pipeline.ValueKit
public import Idealize.ShloMosaic.Lib.Pipeline.ReadBack

@[expose] public section
set_option maxRecDepth 16384
noncomputable section
namespace Cert.FfnIdeal.Hand
open Cert.FfnIdeal Cert.FfnIdeal.Gen Idealize.ShloMosaic Idealize.ShloMosaic.TcCoe Idealize.SL.Sem
open kernelRun0_A.sl

section
variable {c : Dev nD} {i : grid0.Coords} {arg1 : Memref sig .tc .vmem S512x1024 .bf16} {harg1 : arg1.IsWhole} {arg2 : Memref sig .tc .vmem S16x1024 .bf16} {harg2 : arg2.IsWhole} {arg3 : Memref sig .tc .vmem S512x1024 .f32} {harg3 : arg3.IsWhole} {arg4 : Memref sig .tc .vmem S1024x5632 .bf16} {harg4 : arg4.IsWhole} {arg5 : Memref sig .tc .vmem S3x5632 .f32} {harg5 : arg5.IsWhole} {arg6 : Memref sig .tc .vmem S1x5632 .f32} {harg6 : arg6.IsWhole} {arg7 : Memref sig .tc .vmem S2816x1024 .bf16} {harg7 : arg7.IsWhole} {arg8 : Memref sig .tc .vmem S8x1024 .f32} {harg8 : arg8.IsWhole} {arg9 : Memref sig .tc .vmem S1x1024 .f32} {harg9 : arg9.IsWhole} {arg10 : Memref sig .tc .vmem S512x1024 .f32} {harg10 : arg10.IsWhole} {arg11 : Memref sig .tc .vmem S528x1024 .bf16} {harg11 : arg11.IsWhole} {arg12 : Memref sig .tc .vmem S2x2x2x528x128 .f32} {harg12 : arg12.IsWhole} {arg13 : Memref sig .tc .vmem S512x2816 .bf16} {harg13 : arg13.IsWhole} {arg14 : Memref sig .tc .vmem S8x512x128 .f32} {harg14 : arg14.IsWhole}
  {x0 : Vec Ideal S512x1024 .bf16} {x1 : Vec Ideal S16x1024 .bf16} {x2 : Vec Ideal S512x1024 .f32} {x3 : Vec Ideal S1024x5632 .bf16} {x4 : Vec Ideal S3x5632 .f32} {x5 : Vec Ideal S1x5632 .f32} {x6 : Vec Ideal S2816x1024 .bf16} {x7 : Vec Ideal S8x1024 .f32} {x8 : Vec Ideal S1x1024 .f32}

/-- The grid coordinate `n` is the first tile of its sequence of eight: the remainder that the
kernel forms in 32-bit words is zero exactly then. -/
theorem first_tile (n : Nat) (h : n < 32) :
    Scalar.cmpi CmpIPredicate.eq
      (Scalar.select
        (Scalar.andi
          (Scalar.xori (Scalar.cmpi CmpIPredicate.slt (Scalar.remsi (BitVec.ofNat 32 n) 8#32) 0#32) 0#1)
          (Scalar.cmpi CmpIPredicate.ne (Scalar.remsi (BitVec.ofNat 32 n) 8#32) 0#32))
        (Scalar.addi (Scalar.remsi (BitVec.ofNat 32 n) 8#32) 8#32)
        (Scalar.remsi (BitVec.ofNat 32 n) 8#32))
      0#32 = if n % 8 = 0 then 1#1 else 0#1 := by
  have := (by decide +kernel : ∀ n : Fin 32, Scalar.cmpi CmpIPredicate.eq
      (Scalar.select
        (Scalar.andi
          (Scalar.xori (Scalar.cmpi CmpIPredicate.slt (Scalar.remsi (BitVec.ofNat 32 n.val) 8#32) 0#32) 0#1)
          (Scalar.cmpi CmpIPredicate.ne (Scalar.remsi (BitVec.ofNat 32 n.val) 8#32) 0#32))
        (Scalar.addi (Scalar.remsi (BitVec.ofNat 32 n.val) 8#32) 8#32)
        (Scalar.remsi (BitVec.ofNat 32 n.val) 8#32))
      0#32 = if n.val % 8 = 0 then 1#1 else 0#1)
  exact this ⟨n, h⟩

/-- The row of the modulation block that tile `n` reads is the number of its sequence. -/
theorem mod_row (i : grid0.Coords) : k0_off1 i = ![(i 0).val / 8, 0] := by
  have := (by decide +kernel : ∀ i : grid0.Coords, k0_off1 i = ![(i 0).val / 8, 0])
  exact this i

/-- The rows a tile projects: the sixteen rows before it (zeros at the start of a sequence), then
its own 512 rows. -/
def hcat (n : Nat) (x0 : S512x1024.Idx → EReal) (x1 : S16x1024.Idx → EReal) (r : Nat)
    (k : Fin 1024) : EReal :=
  if r < 16 then (if n % 8 = 0 then 0 else x1 (ix2 ⟨r % 16, Nat.mod_lt _ (by decide)⟩ k))
  else x0 (ix2 ⟨(r - 16) % 512, Nat.mod_lt _ (by decide)⟩ k)

/-- An own row of `hcat`. -/
theorem hcat_own (n : Nat) (x0 : S512x1024.Idx → EReal) (x1 : S16x1024.Idx → EReal) (x : S512x1024.Idx)
    (r : Nat) (k : Fin 1024) (hr : r = 16 + (x 0).val) (hk : k.val = (x 1).val) :
    hcat n x0 x1 r k = x0 x := by
  have h0 : (x 0).val < 512 := (x 0).isLt
  unfold hcat
  rw [if_neg (by omega)]
  refine congrArg x0 (funext fun d => Fin.ext ?_)
  match d with
  | ⟨0, _⟩ => show (r - 16) % 512 = (x 0).val; omega
  | ⟨1, _⟩ => exact hk

/-- A row of `hcat` before the tile. -/
theorem hcat_before (n : Nat) (x0 : S512x1024.Idx → EReal) (x1 : S16x1024.Idx → EReal) (x : S16x1024.Idx)
    (r : Nat) (k : Fin 1024) (hr : r = (x 0).val) (hk : k.val = (x 1).val) :
    hcat n x0 x1 r k = if n % 8 = 0 then 0 else x1 x := by
  have h0 : (x 0).val < 16 := (x 0).isLt
  unfold hcat
  rw [if_pos (by omega)]
  refine if_congr Iff.rfl rfl (congrArg x1 (funext fun d => Fin.ext ?_))
  match d with
  | ⟨0, _⟩ => show r % 16 = (x 0).val; omega
  | ⟨1, _⟩ => exact hk

/-- The two stores into the projection's input write `hcat`. -/
theorem hcat_pieces : View.PiecesOf (Val := Elt Ideal) (e := .bf16)
    (fun j : S528x1024.Idx => hcat (i 0).val x0 x1 (j 0).val (j 1))
    (HS0_2 c i arg1 harg1 arg2 harg2 x0 x1) := by
  unfold HS0_2
  refine ⟨fun (x : S512x1024.Idx) => ?_, fun (x : S16x1024.Idx) => ?_, trivial⟩
  · simp only [v20]
    open_payloads
    pointwise
    simp only [Memref.IsWhole.read_unread]
    refine (hcat_own _ _ _ x _ _ ?_ ?_).symm
    · show 16 + 1 * (x 0).val = _; omega
    · show 0 + 1 * (x 1).val = _; omega
  · simp only [cst, v10, v11, v13, v16, v2, v3, v4, v6, v7, v8, v9]
    open_payloads
    pointwise
    simp only [Memref.IsWhole.read_unread]
    refine Eq.trans ?_ (hcat_before _ _ _ x _ _ ?_ ?_).symm
    · rw [first_tile _ (i 0).isLt]
      by_cases hn : (i 0).val % 8 = 0
      · rw [if_pos hn, if_pos hn]; rfl
      · rw [if_neg hn, if_neg hn]; rfl
    · show 0 + 1 * (x 0).val = _; omega
    · show 0 + 1 * (x 1).val = _; omega

/-- The projection's input, read back whole. -/
theorem hcat_read : v21 c i arg1 harg1 arg2 harg2 arg11 x0 x1
    = fun j : S528x1024.Idx => hcat (i 0).val x0 x1 (j 0).val (j 1) := by
  unfold v21
  exact whole_of_pieces _ hcat_pieces
    (View.cover_of_tiledBy _ ![16, 1024] (by sl_kernel_rfl)) _

/-- The gate row of the modulation that the tile reads. -/
theorem mod_read :
    r_219 c i arg8 harg8 x7 = fun j : S1x1024.Idx =>
      x7 (ix2 ⟨(i 0).val / 8, by have : (i 0).val < 32 := (i 0).isLt; omega⟩ (j 1)) := by
  funext j
  have hj : (j 0).val < 1 := (j 0).isLt
  simp only [r_219, View.readAt_apply, Memref.IsWhole.read_unread]
  refine congrArg x7 (funext fun d => Fin.ext ?_)
  match d with
  | ⟨0, _⟩ => show k0_off1 i 0 + 1 * (j 0).val = (i 0).val / 8; have h := congrFun (mod_row i) 0; have h' : k0_off1 i 0 = (i 0).val / 8 := h; omega
  | ⟨1, _⟩ => show k0_off1 i 1 + 1 * (j 1).val = (j 1).val; have h := congrFun (mod_row i) 1; have h' : k0_off1 i 1 = 0 := h; omega

end
end Cert.FfnIdeal.Hand
-- ==== Proof.Tile.lean ====
/- What one tile of the kernel writes, in terms of the blocks it holds. -/
module
public import proofs.«01_k».proof.Proof.Block
public import proofs.«01_k».proof.Proof.Hidden
public import proofs.«01_k».proof.Proof.Halo
public import proofs.«01_k».proof.Proof.Gen.FfnIdeal.Value
import all proofs.«01_k».proof.Proof.Gen.FfnIdeal.Frame.RunA
public import Idealize.ShloMosaic.Lib.Pointwise
public import Idealize.ShloMosaic.Lib.Pipeline.ValueKit
public import Idealize.ShloMosaic.Lib.Pipeline.ReadBack

@[expose] public section
set_option maxRecDepth 16384
noncomputable section
namespace Cert.FfnIdeal.Hand
open Cert.FfnIdeal Cert.FfnIdeal.Gen Idealize.ShloMosaic Idealize.ShloMosaic.TcCoe Idealize.SL.Sem
open kernelRun0_A.sl

section
variable {c : Dev nD} {i : grid0.Coords} {arg1 : Memref sig .tc .vmem S512x1024 .bf16} {harg1 : arg1.IsWhole} {arg2 : Memref sig .tc .vmem S16x1024 .bf16} {harg2 : arg2.IsWhole} {arg3 : Memref sig .tc .vmem S512x1024 .f32} {harg3 : arg3.IsWhole} {arg4 : Memref sig .tc .vmem S1024x5632 .bf16} {harg4 : arg4.IsWhole} {arg5 : Memref sig .tc .vmem S3x5632 .f32} {harg5 : arg5.IsWhole} {arg6 : Memref sig .tc .vmem S1x5632 .f32} {harg6 : arg6.IsWhole} {arg7 : Memref sig .tc .vmem S2816x1024 .bf16} {harg7 : arg7.IsWhole} {arg8 : Memref sig .tc .vmem S8x1024 .f32} {harg8 : arg8.IsWhole} {arg9 : Memref sig .tc .vmem S1x1024 .f32} {harg9 : arg9.IsWhole} {arg10 : Memref sig .tc .vmem S512x1024 .f32} {harg10 : arg10.IsWhole} {arg11 : Memref sig .tc .vmem S528x1024 .bf16} {harg11 : arg11.IsWhole} {arg12 : Memref sig .tc .vmem S2x2x2x528x128 .f32} {harg12 : arg12.IsWhole} {arg13 : Memref sig .tc .vmem S512x2816 .bf16} {harg13 : arg13.IsWhole} {arg14 : Memref sig .tc .vmem S8x512x128 .f32} {harg14 : arg14.IsWhole}
  {x0 : Vec Ideal S512x1024 .bf16} {x1 : Vec Ideal S16x1024 .bf16} {x2 : Vec Ideal S512x1024 .f32} {x3 : Vec Ideal S1024x5632 .bf16} {x4 : Vec Ideal S3x5632 .f32} {x5 : Vec Ideal S1x5632 .f32} {x6 : Vec Ideal S2816x1024 .bf16} {x7 : Vec Ideal S8x1024 .f32} {x8 : Vec Ideal S1x1024 .f32}

/-- A tile of the gated hidden activations, from the blocks the tile holds. -/
def hidden (n : Nat) (x0 : S512x1024.Idx → EReal) (x1 : S16x1024.Idx → EReal) (x3 : S1024x5632.Idx → EReal)
    (x4 : S3x5632.Idx → EReal) (x5 : S1x5632.Idx → EReal) : S512x2816.Idx → EReal :=
  fun j => gated (fun j : S528x1024.Idx => hcat n x0 x1 (j 0).val (j 1)) x3 x4 x5 (j 0).val (j 1).val

/-- The gate row of sequence `n / 8`. -/
def modRow (n : Nat) (x7 : S8x1024.Idx → EReal) : S1x1024.Idx → EReal :=
  fun j => x7 (ix2 ⟨n / 8 % 8, Nat.mod_lt _ (by decide)⟩ (j 1))

/-- The hidden activations read back whole. -/
theorem hidden_read : v3407 c i arg1 harg1 arg2 harg2 arg4 harg4 arg5 harg5 arg6 harg6 arg11 arg12 arg13 x0 x1 x3 x4 x5
    = hidden (i 0).val x0 x1 x3 x4 x5 := by
  unfold v3407
  exact whole_of_pieces _ (hid_pieces _ hcat_read hcat_read)
    (View.cover_of_tiledBy _ ![256, 128] (by sl_kernel_rfl)) _

/-- What a tile writes: the norm of the residual sums of its hidden activations. -/
theorem tile_out (x : S512x1024.Idx) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x
      = normed (fun r q => resid (hidden (i 0).val x0 x1 x3 x4 x5) x6 x2 (modRow (i 0).val x7) r q) x8 (x 0).val (x 1).val := by
  refine out_block _ _ hidden_read (mod_read.trans (funext fun j => ?_)) x
  have h : (i 0).val < 32 := (i 0).isLt
  refine congrArg x7 (funext fun d => Fin.ext ?_)
  match d with
  | ⟨0, _⟩ => show (i 0).val / 8 = (i 0).val / 8 % 8; omega
  | ⟨1, _⟩ => rfl

end
end Cert.FfnIdeal.Hand
-- ==== Proof.Spec.lean ====
/- The feed-forward layer's result, row by row, as sums of extended reals over the argument arrays; and the laws of
   extended reals by which the kernel's arrangement of it is the same value. -/
module

public import Idealize.ShloMosaic.Lib.Pointwise
public import Idealize.ShloMosaic.Lib.IdealHost

@[expose] public section

noncomputable section

namespace Cert.Ffn.Spec

open Idealize.ShloMosaic

/-- The indices of an `a` by `b` array. -/
abbrev Ix (a b : ℕ) : Type := (⟨2, ![a, b]⟩ : Shape).Idx

/-- The root of one half, as a real: the inverse root of two. -/
def k : EReal := (((Real.sqrt 2)⁻¹ : ℝ) : EReal)

/-- The projection of token `R` at channel `q`. -/
def proj (h : Ix 16384 1024 → EReal) (w : Ix 1024 5632 → EReal) (R q : ℕ) : EReal :=
  ∑ j : Fin 1024, h (ix2 ⟨R % 16384, Nat.mod_lt _ (by norm_num)⟩ j) * w (ix2 j ⟨q % 5632, Nat.mod_lt _ (by norm_num)⟩)

/-- The projection `d` tokens earlier in the same sequence of 4096, zero before the sequence begins. -/
def tap (h : Ix 16384 1024 → EReal) (w : Ix 1024 5632 → EReal) (R d q : ℕ) : EReal :=
  if R % 4096 < d then 0 else proj h w (R - d) q

/-- The short convolution along the sequence, with its bias. -/
def conv (h : Ix 16384 1024 → EReal) (w : Ix 1024 5632 → EReal) (cw : Ix 3 5632 → EReal) (cb : Ix 1 5632 → EReal)
    (R q : ℕ) : EReal :=
  cb (ix2 0 ⟨q % 5632, Nat.mod_lt _ (by norm_num)⟩)
    + (cw (ix2 0 ⟨q % 5632, Nat.mod_lt _ (by norm_num)⟩) * tap h w R 2 q
      + cw (ix2 1 ⟨q % 5632, Nat.mod_lt _ (by norm_num)⟩) * tap h w R 1 q
      + cw (ix2 2 ⟨q % 5632, Nat.mod_lt _ (by norm_num)⟩) * tap h w R 0 q)

/-- The gated linear unit `v · g · (1 + erf (g / √2)) / 2` of the gate `g` and the value `v`. -/
def glu (g v : EReal) : EReal :=
  ((1 / 2 : ℝ) : EReal) * g * (1 + Ideal.erf (g * k)) * v

/-- The residual sum: the token's residual plus the sequence's gate times the down-projection. -/
def res (h : Ix 16384 1024 → EReal) (xr : Ix 16384 1024 → EReal) (w : Ix 1024 5632 → EReal) (cw : Ix 3 5632 → EReal)
    (cb : Ix 1 5632 → EReal) (wd : Ix 2816 1024 → EReal) (md : Ix 8 6144 → EReal) (R q : ℕ) : EReal :=
  xr (ix2 ⟨R % 16384, Nat.mod_lt _ (by norm_num)⟩ ⟨q % 1024, Nat.mod_lt _ (by norm_num)⟩)
    + md (ix2 ⟨R / 4096 % 8, Nat.mod_lt _ (by norm_num)⟩ ⟨5120 + q % 1024, by omega⟩)
      * ∑ j : Fin 2816, glu (conv h w cw cb R (j.val + 2816)) (conv h w cw cb R j.val)
          * wd (ix2 j ⟨q % 1024, Nat.mod_lt _ (by norm_num)⟩)

/-- The root mean square norm of the rows of `y`, with its weight. -/
def norm (y : ℕ → ℕ → EReal) (fw : Ix 1 1024 → EReal) (R q : ℕ) : EReal :=
  y R q * Ideal.rsqrt ((∑ j : Fin 1024, y R j.val * y R j.val) * ((1 / 1024 : ℝ) : EReal) + Ideal.ofBits .f32 0x358637BD#32)
    * fw (ix2 0 ⟨q % 1024, Nat.mod_lt _ (by norm_num)⟩)

theorem k_nonneg : 0 ≤ k := by unfold k; exact_mod_cast inv_nonneg.2 (Real.sqrt_nonneg 2)

theorem k_ne_top : k ≠ ⊤ := EReal.coe_ne_top _

/-- The square of the root of one half. -/
theorem k_mul_k : k * k = ((1 / 2 : ℝ) : EReal) := by
  unfold k
  rw [← EReal.coe_mul, ← mul_inv, Real.mul_self_sqrt (by norm_num)]
  norm_num

/-- The constant folded into the bias and the taps is the constant times the convolution. -/
theorem conv_folded (b c0 c1 c2 u0 u1 u2 : EReal) :
    b * k + c0 * k * u0 + c1 * k * u1 + c2 * k * u2 = (b + (c0 * u0 + c1 * u1 + c2 * u2)) * k := by
  have h := EReal.right_distrib_of_nonneg_of_ne_top k_nonneg k_ne_top
  rw [h, h, h, ← add_assoc, ← add_assoc, mul_right_comm c0, mul_right_comm c1, mul_right_comm c2]

/-- The unit of the folded gate and the folded value. -/
theorem glu_folded (g v : EReal) : g * k * (1 + Ideal.erf (g * k)) * (v * k) = glu g v := by
  unfold glu
  rw [← k_mul_k]
  generalize 1 + Ideal.erf (g * k) = e
  ac_rfl

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_1024th : Ideal.ofBits .f32 0x3A800000#32 = ((1 / 1024 : ℝ) : EReal) := by
  simp [Ideal.ofBits, Ideal.ieee, -EReal.coe_mul]; norm_num

end Cert.Ffn.Spec
-- ==== Proof.TileValue.lean ====
/- A tile's output is the layer's result at the tile's rows, given what its blocks hold. -/
module

public import proofs.«01_k».proof.Proof.Tile
public import proofs.«01_k».proof.Proof.Spec

@[expose] public section

set_option maxRecDepth 16384

noncomputable section

namespace Cert.FfnIdeal.Hand

open Cert.FfnIdeal Cert.FfnIdeal.Gen Cert.Ffn Idealize.ShloMosaic Idealize.ShloMosaic.TcCoe Idealize.SL.Sem

/-- The constant that the kernel folds into the bias and the taps is the root of one half. -/
theorem kk_eq : kk = Spec.k := rfl

section
variable {n : ℕ} {h : Spec.Ix 16384 1024 → EReal} {x0 : S512x1024.Idx → EReal} {x1 : S16x1024.Idx → EReal}

/-- A row the tile projects, `d` rows before its row `r`, is that token's tap. -/
theorem up_tile (hn : n < 32)
    (h0 : ∀ (r : ℕ) (j : Fin 1024) (hr : r < 512), x0 (ix2 ⟨r, hr⟩ j) = h (ix2 ⟨512 * n + r, by omega⟩ j))
    (h1 : n % 8 ≠ 0 → ∀ (r : ℕ) (j : Fin 1024) (hr : r < 16), x1 (ix2 ⟨r, hr⟩ j) = h (ix2 ⟨512 * n - 16 + r, by omega⟩ j))
    (w : S1024x5632.Idx → EReal) (r d q : ℕ) (hr : r < 512) (hd : d ≤ 2) :
    up (fun j : S528x1024.Idx => hcat n x0 x1 (j 0).val (j 1)) w (16 + r - d) q = Spec.tap h w (512 * n + r) d q := by
  unfold up Spec.tap Spec.proj
  by_cases hz : (512 * n + r) % 4096 < d
  · rw [if_pos hz]
    refine Finset.sum_eq_zero fun j _ => ?_
    have : hcat n x0 x1 ((16 + r - d) % 528) j = 0 := by
      unfold hcat
      rw [if_pos (by omega), if_pos (by omega)]
    exact (congrArg (· * _) this).trans (zero_mul _)
  · rw [if_neg hz]
    refine Finset.sum_congr rfl fun j _ => congrArg (· * _) ?_
    show hcat n x0 x1 ((16 + r - d) % 528) j = _
    unfold hcat
    by_cases hlt : r < d
    · rw [if_pos (by omega), if_neg (by omega)]
      refine (h1 (by omega) _ j _).trans (congrArg (fun a => h (ix2 a j)) (Fin.ext ?_))
      show 512 * n - 16 + (16 + r - d) % 528 % 16 = (512 * n + r - d) % 16384
      omega
    · rw [if_neg (by omega)]
      refine (h0 _ j _).trans (congrArg (fun a => h (ix2 a j)) (Fin.ext ?_))
      show 512 * n + ((16 + r - d) % 528 - 16) % 512 = (512 * n + r - d) % 16384
      omega

/-- The tile's folded convolution at its row `r` is the constant times the layer's convolution there. -/
theorem conv_tile (hn : n < 32)
    (h0 : ∀ (r : ℕ) (j : Fin 1024) (hr : r < 512), x0 (ix2 ⟨r, hr⟩ j) = h (ix2 ⟨512 * n + r, by omega⟩ j))
    (h1 : n % 8 ≠ 0 → ∀ (r : ℕ) (j : Fin 1024) (hr : r < 16), x1 (ix2 ⟨r, hr⟩ j) = h (ix2 ⟨512 * n - 16 + r, by omega⟩ j))
    (w : S1024x5632.Idx → EReal) (cw : S3x5632.Idx → EReal) (cb : S1x5632.Idx → EReal) (s r q : ℕ) (hr : r < 512) (hs : s = 14 + r) :
    conv (fun j : S528x1024.Idx => hcat n x0 x1 (j 0).val (j 1)) w cw cb s q
      = Spec.conv h w cw cb (512 * n + r) q * Spec.k := by
  unfold conv Spec.conv
  rw [kk_eq, show s = 16 + r - 2 by omega, show 16 + r - 2 + 1 = 16 + r - 1 by omega, show 16 + r - 2 + 2 = 16 + r - 0 by omega,
    up_tile hn h0 h1 w r 2 q hr (by omega), up_tile hn h0 h1 w r 1 q hr (by omega), up_tile hn h0 h1 w r 0 q hr (by omega)]
  exact Spec.conv_folded _ _ _ _ _ _ _

/-- The hidden activation that the tile keeps for its row `r`. -/
theorem hidden_tile (hn : n < 32)
    (h0 : ∀ (r : ℕ) (j : Fin 1024) (hr : r < 512), x0 (ix2 ⟨r, hr⟩ j) = h (ix2 ⟨512 * n + r, by omega⟩ j))
    (h1 : n % 8 ≠ 0 → ∀ (r : ℕ) (j : Fin 1024) (hr : r < 16), x1 (ix2 ⟨r, hr⟩ j) = h (ix2 ⟨512 * n - 16 + r, by omega⟩ j))
    (w : S1024x5632.Idx → EReal) (cw : S3x5632.Idx → EReal) (cb : S1x5632.Idx → EReal) (s r q : ℕ) (hr : r < 512)
    (hs : s = r % 2 * 256 + r / 2) :
    gated (fun j : S528x1024.Idx => hcat n x0 x1 (j 0).val (j 1)) w cw cb s q
      = Spec.glu (Spec.conv h w cw cb (512 * n + r) (q + 2816)) (Spec.conv h w cw cb (512 * n + r) q) := by
  unfold gated
  rw [conv_tile hn h0 h1 w cw cb _ r _ hr (by omega), conv_tile hn h0 h1 w cw cb _ r _ hr (by omega)]
  exact Spec.glu_folded _ _

/-- The tile's residual sum at its row `r`. -/
theorem resid_tile {xr : Spec.Ix 16384 1024 → EReal} {x2 : S512x1024.Idx → EReal} {md : Spec.Ix 8 6144 → EReal}
    {x7 : S8x1024.Idx → EReal} (hn : n < 32)
    (h0 : ∀ (r : ℕ) (j : Fin 1024) (hr : r < 512), x0 (ix2 ⟨r, hr⟩ j) = h (ix2 ⟨512 * n + r, by omega⟩ j))
    (h1 : n % 8 ≠ 0 → ∀ (r : ℕ) (j : Fin 1024) (hr : r < 16), x1 (ix2 ⟨r, hr⟩ j) = h (ix2 ⟨512 * n - 16 + r, by omega⟩ j))
    (h2 : ∀ (r : ℕ) (j : Fin 1024) (hr : r < 512), x2 (ix2 ⟨r, hr⟩ j) = xr (ix2 ⟨512 * n + r, by omega⟩ j))
    (h7 : ∀ (b : Fin 8) (j : Fin 1024), x7 (ix2 b j) = md (ix2 b ⟨5120 + j.val, by omega⟩))
    (w : S1024x5632.Idx → EReal) (cw : S3x5632.Idx → EReal) (cb : S1x5632.Idx → EReal) (wd : S2816x1024.Idx → EReal) (r q : ℕ)
    (hr : r < 512) :
    resid (hidden n x0 x1 w cw cb) wd x2 (modRow n x7) r q = Spec.res h xr w cw cb wd md (512 * n + r) q := by
  unfold resid Spec.res
  refine congrArg₂ (· + ·) ?_ (congrArg₂ (· * ·) ?_ ?_)
  · refine (h2 _ _ _).trans (congrArg (fun a => xr (ix2 a _)) (Fin.ext ?_))
    show 512 * n + r % 512 = (512 * n + r) % 16384
    omega
  · refine (h7 _ _).trans (congrArg₂ (fun a b => md (ix2 a b)) (Fin.ext ?_) rfl)
    · show n / 8 % 8 = (512 * n + r) / 4096 % 8
      omega
  · unfold dot
    refine Finset.sum_congr rfl fun j _ => congrArg (· * _) ?_
    exact hidden_tile hn h0 h1 w cw cb _ r _ hr (by show (r % 2 * 256 + r / 2) % 512 = _; omega)

/-- The tile's output at its row `r`: the layer's result at row `512 n + r`. -/
theorem normed_tile {xr : Spec.Ix 16384 1024 → EReal} {x2 : S512x1024.Idx → EReal} {md : Spec.Ix 8 6144 → EReal}
    {x7 : S8x1024.Idx → EReal} (hn : n < 32)
    (h0 : ∀ (r : ℕ) (j : Fin 1024) (hr : r < 512), x0 (ix2 ⟨r, hr⟩ j) = h (ix2 ⟨512 * n + r, by omega⟩ j))
    (h1 : n % 8 ≠ 0 → ∀ (r : ℕ) (j : Fin 1024) (hr : r < 16), x1 (ix2 ⟨r, hr⟩ j) = h (ix2 ⟨512 * n - 16 + r, by omega⟩ j))
    (h2 : ∀ (r : ℕ) (j : Fin 1024) (hr : r < 512), x2 (ix2 ⟨r, hr⟩ j) = xr (ix2 ⟨512 * n + r, by omega⟩ j))
    (h7 : ∀ (b : Fin 8) (j : Fin 1024), x7 (ix2 b j) = md (ix2 b ⟨5120 + j.val, by omega⟩))
    (w : S1024x5632.Idx → EReal) (cw : S3x5632.Idx → EReal) (cb : S1x5632.Idx → EReal) (wd : S2816x1024.Idx → EReal)
    (fw : S1x1024.Idx → EReal) (r q : ℕ) (hr : r < 512) :
    normed (fun r q => resid (hidden n x0 x1 w cw cb) wd x2 (modRow n x7) r q) fw r q
      = Spec.norm (Spec.res h xr w cw cb wd md) fw (512 * n + r) q := by
  have e : ∀ q, resid (hidden n x0 x1 w cw cb) wd x2 (modRow n x7) r q = Spec.res h xr w cw cb wd md (512 * n + r) q :=
    fun q => resid_tile hn h0 h1 h2 h7 w cw cb wd r q hr
  unfold normed Spec.norm
  simp only [e]
  rw [show (981467136#32 : BitVec 32) = 0x3A800000#32 from rfl, Spec.ofBits_1024th]

end

end Cert.FfnIdeal.Hand
-- ==== Proof.Array.lean ====
/- The kernel's output array is the layer's result. -/
module

public import proofs.«01_k».proof.Proof.TileValue

@[expose] public section

set_option maxRecDepth 16384

noncomputable section

namespace Cert.FfnIdeal.Hand

open Cert.FfnIdeal Cert.FfnIdeal.Gen Cert.Ffn Idealize.ShloMosaic Idealize.ShloMosaic.TcCoe Idealize.SL.Sem

variable (m : (ℓ : Loc nD τ sig) → Buf (Elt Ideal) ℓ)

/-- Which block of its array each window holds at tile `t`. -/
theorem idx : ∀ t : Fin cfg0.N, win0_0.index t = ![(grid0.coords t 0).val, 0] ∧ win0_1.index t = ![(grid0.coords t 0).val * 32 - 1, 0]
    ∧ win0_2.index t = ![(grid0.coords t 0).val, 0] ∧ win0_3.index t = ![0, 0] ∧ win0_4.index t = ![0, 0]
    ∧ win0_5.index t = ![0, 0] ∧ win0_6.index t = ![0, 0] ∧ win0_7.index t = ![0, 5] ∧ win0_8.index t = ![0, 0]
    ∧ win0_9.index t = ![(grid0.coords t 0).val, 0] :=
  (by decide +kernel : ∀ t : Fin grid0.N, _)

variable (c : Dev nD) (t : Fin cfg0.N)

/-- The projection's weights: the block is the whole array. -/
theorem blk3 : iblk m c 3 t = m ((c : Thread nD τ).loc main_arg2) := by
  blk_ext! [iblk, V, idx t]

/-- The convolution's taps: the block is the whole array. -/
theorem blk4 : iblk m c 4 t = m ((c : Thread nD τ).loc main_arg3) := by
  blk_ext! [iblk, V, idx t]

/-- The convolution's bias: the block is the whole array. -/
theorem blk5 : iblk m c 5 t = m ((c : Thread nD τ).loc main_arg4) := by
  blk_ext! [iblk, V, idx t]

/-- The down-projection's weights: the block is the whole array. -/
theorem blk6 : iblk m c 6 t = m ((c : Thread nD τ).loc main_arg5) := by
  blk_ext! [iblk, V, idx t]

/-- The norm's weight: the block is the whole array. -/
theorem blk8 : iblk m c 8 t = m ((c : Thread nD τ).loc main_arg7) := by
  blk_ext! [iblk, V, idx t]

/-- The tile's own rows. -/
theorem blk0 (r : ℕ) (j : Fin 1024) (hr : r < 512) : iblk m c 0 t (ix2 (n0 := 512) (n1 := 1024) ⟨r, hr⟩ j)
    = m ((c : Thread nD τ).loc main_arg0) (ix2 (n0 := 16384) (n1 := 1024) ⟨512 * (grid0.coords t 0).val + r, by have : (grid0.coords t 0).val < 32 := (grid0.coords t 0).isLt; omega⟩ j) := by
  have ht : (grid0.coords t 0).val < 32 := (grid0.coords t 0).isLt
  blk_ext [iblk, V, idx t]

/-- The sixteen rows before the tile, unless it is the first of its sequence. -/
theorem blk1 (hn : (grid0.coords t 0).val % 8 ≠ 0) (r : ℕ) (j : Fin 1024) (hr : r < 16) : iblk m c 1 t (ix2 (n0 := 16) (n1 := 1024) ⟨r, hr⟩ j)
    = m ((c : Thread nD τ).loc main_arg0) (ix2 (n0 := 16384) (n1 := 1024) ⟨512 * (grid0.coords t 0).val - 16 + r, by have : (grid0.coords t 0).val < 32 := (grid0.coords t 0).isLt; omega⟩ j) := by
  have ht : (grid0.coords t 0).val < 32 := (grid0.coords t 0).isLt
  blk_ext [iblk, V, idx t]

/-- The residual's rows of the tile. -/
theorem blk2 (r : ℕ) (j : Fin 1024) (hr : r < 512) : iblk m c 2 t (ix2 (n0 := 512) (n1 := 1024) ⟨r, hr⟩ j)
    = m ((c : Thread nD τ).loc main_arg1) (ix2 (n0 := 16384) (n1 := 1024) ⟨512 * (grid0.coords t 0).val + r, by have : (grid0.coords t 0).val < 32 := (grid0.coords t 0).isLt; omega⟩ j) := by
  have ht : (grid0.coords t 0).val < 32 := (grid0.coords t 0).isLt
  blk_ext [iblk, V, idx t]

/-- The last sixth of the modulation's columns. -/
theorem blk7 (b : Fin 8) (j : Fin 1024) : iblk m c 7 t (ix2 (n0 := 8) (n1 := 1024) b j)
    = m ((c : Thread nD τ).loc main_arg6) (ix2 (n0 := 8) (n1 := 6144) b ⟨5120 + j.val, by omega⟩) := by
  blk_ext [iblk, V, idx t]

/-- The output array after the run. -/
theorem final : (dats m 0 c).arrAt 9 cfg0.N = fun i : S16384x1024.Idx =>
    Spec.norm (Spec.res (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))) (m ((c : Thread nD τ).loc main_arg7)) (i 0).val (i 1).val := by
  refine (dats m 0 c).arrAt_eq_of_covers 9 _ (by decide +kernel) fun t hf (y : S512x1024.Idx) => ?_
  blk_simp
  rw [after0_9]
  unfold outsAt0
  have ht : (grid0.coords t 0).val < 32 := (grid0.coords t 0).isLt
  have hy : (y 0).val < 512 := (y 0).isLt
  rw [tile_out, blk3, blk4, blk5, blk6, blk8, (idx t).2.2.2.2.2.2.2.2.2]
  refine (normed_tile ht (blk0 m c t) (blk1 m c t) (blk2 m c t) (blk7 m c t) _ _ _ _ _ _ _ hy).trans ?_
  refine congrArg₂ (Spec.norm _ _) ?_ ?_
  · show _ = (grid0.coords t 0).val * 512 + (y 0).val
    omega
  · show _ = 0 * 1024 + (y 1).val
    omega

end Cert.FfnIdeal.Hand
-- ==== Proof.Reference.lean ====
/- The reference's result array is the layer's result. -/
module

public import proofs.«01_k».proof.Proof.Spec
public import proofs.«01_k».proof.Proof.Gen.FfnReferenceIdeal.Read
public import Idealize.ShloMosaic.Lib.KernelVsHost

@[expose] public section

set_option maxRecDepth 16384

noncomputable section

namespace Cert.FfnReferenceIdeal.Hand

open Cert.FfnReferenceIdeal Cert.FfnReferenceIdeal.Read Cert.Ffn Idealize.ShloMosaic Idealize.ShloMosaic.TcCoe Idealize.SL.Sem

variable (x0 : S16384x1024.Idx → EReal) (x1 : S16384x1024.Idx → EReal) (x2 : S1024x5632.Idx → EReal) (x3 : S3x5632.Idx → EReal)
  (x4 : S1x5632.Idx → EReal) (x5 : S2816x1024.Idx → EReal) (x6 : S8x6144.Idx → EReal) (x7 : S1x1024.Idx → EReal)

/-- The projection. -/
theorem proj_apply (i : S4x4096x5632.Idx) :
    val_main_v3 (F := Ideal) x0 x2 i = Spec.proj x0 x2 ((i 0).val * 4096 + (i 1).val) (i 2).val := by
  have h0 : (i 0).val < 4 := (i 0).isLt
  have h1 : (i 1).val < 4096 := (i 1).isLt
  have h2 : (i 2).val < 5632 := (i 2).isLt
  rw [val_main_v3_apply]
  refine Finset.sum_congr rfl fun j _ => ?_
  rw [val_main_v1_apply, val_main_v0_apply, val_main_v2_apply]
  refine congrArg₂ (· * ·) (congrArg x0 (funext fun a => Fin.ext ?_)) (congrArg x2 (funext fun a => Fin.ext ?_))
  · have hj := j.isLt
    match a with
    | ⟨0, _⟩ => show (((i 0).val * 4096 + (i 1).val) * 1024 + j.val) / 1024 = ((i 0).val * 4096 + (i 1).val) % 16384; omega
    | ⟨1, _⟩ => show (((i 0).val * 4096 + (i 1).val) * 1024 + j.val) % 1024 = j.val; omega
  · match a with
    | ⟨0, _⟩ => rfl
    | ⟨1, _⟩ => show (i 2).val = (i 2).val % 5632; omega

/-- The projection padded by two zero rows in front of every sequence, read `2 - d` rows on. -/
theorem tap_apply (i : S4x4096x5632.Idx) (d : ℕ) (hd : d ≤ 2) (j : S4x4098x5632.Idx)
    (j0 : (j 0).val = (i 0).val) (j1 : (j 1).val = 2 - d + (i 1).val) (j2 : (j 2).val = (i 2).val) :
    val_main_v4 (F := Ideal) x0 x2 j = Spec.tap x0 x2 ((i 0).val * 4096 + (i 1).val) d (i 2).val := by
  have h0 : (i 0).val < 4 := (i 0).isLt
  have h1 : (i 1).val < 4096 := (i 1).isLt
  have h2 : (i 2).val < 5632 := (i 2).isLt
  unfold val_main_v4 Spec.tap
  by_cases hz : (i 1).val < d
  · rw [if_pos (by omega), pad_apply_of_not_inside _ _ _ _ _ _ _ j (1 : Fin 3) ?_, val_main_call0_v0_apply]
    · exact sitofp_zero (φ := .f32)
    · intro h
      have := h.1
      change 2 ≤ (j 1).val at this
      omega
  · rw [if_neg (by omega), pad_apply_of_inside _ _ _ _ _ _ _ j (ix3 (n0 := 4) (n1 := 4096) (n2 := 5632) ⟨(i 0).val, h0⟩ ⟨(i 1).val - d, by omega⟩ ⟨(i 2).val, h2⟩) ?_, proj_apply]
    · refine congrArg (fun R => Spec.proj x0 x2 R _) ?_
      show (i 0).val * 4096 + ((i 1).val - d) = _
      omega
    · intro a
      match a with
      | ⟨0, _⟩ => show (j 0).val = 0 + (i 0).val * (0 + 1); omega
      | ⟨1, _⟩ => show (j 1).val = 2 + ((i 1).val - d) * (0 + 1); omega
      | ⟨2, _⟩ => show (j 2).val = 0 + (i 2).val * (0 + 1); omega

/-- The convolution. -/
theorem conv_apply (i : S4x4096x5632.Idx) :
    val_main_v30 (F := Ideal) x0 x2 x3 x4 i = Spec.conv x0 x2 x3 x4 ((i 0).val * 4096 + (i 1).val) (i 2).val := by
  have h2 : (i 2).val < 5632 := (i 2).isLt
  rw [val_main_v30_apply, val_main_v29_apply, val_main_v28_apply, val_main_v5_apply, val_main_v27_apply, val_main_v20_apply, val_main_v13_apply,
    val_main_v12_apply, val_main_cst_apply, val_main_v11_apply, val_main_v10_apply, val_main_v9_apply, val_main_v7_apply, val_main_v6_apply,
    val_main_v8_apply, val_main_v19_apply, val_main_v18_apply, val_main_v17_apply, val_main_v15_apply, val_main_v14_apply, val_main_v16_apply,
    val_main_v26_apply, val_main_v25_apply, val_main_v24_apply, val_main_v22_apply, val_main_v21_apply, val_main_v23_apply,
    tap_apply x0 x2 i 2 (by omega) (idx_main_v8 i) rfl (by show (i 1).val = _; omega) rfl,
    tap_apply x0 x2 i 1 (by omega) (idx_main_v16 i) rfl rfl rfl,
    tap_apply x0 x2 i 0 (by omega) (idx_main_v23 i) rfl rfl rfl]
  unfold Spec.conv
  refine congrArg₂ (· + ·) (congrArg x4 ?_) (congrArg₂ (· + ·) (congrArg₂ (· + ·) (Eq.trans (congrArg (· + _) Ideal.ofBits_zero_f32) ((zero_add _).trans ?_)) ?_) ?_)
  · funext a
    match a with
    | ⟨0, _⟩ => rfl
    | ⟨1, _⟩ => rfl
  all_goals
    refine congrArg (· * _) (congrArg x3 (funext fun a => ?_))
    match a with
    | ⟨0, _⟩ => rfl
    | ⟨1, _⟩ => rfl

/-- The root of two, as the reference computes it. -/
theorem sqrt_two : Ideal.sqrt ((2 : ℝ) : EReal) = ((Real.sqrt 2 : ℝ) : EReal) := by
  rw [Ideal.sqrt_coe, if_neg (by norm_num)]

/-- A quotient by the root of two is a product with its inverse. -/
theorem div_sqrt_two (x : EReal) : Ideal.div x ((Real.sqrt 2 : ℝ) : EReal) = x * Spec.k := by
  rw [Ideal.div_coe (Real.sqrt_ne_zero'.2 (by norm_num)), one_div]
  rfl

/-- The gated linear unit. -/
theorem glu_apply (i : S4x4096x2816.Idx) :
    val_main_v42 (F := Ideal) x0 x2 x3 x4 i
      = Spec.glu (Spec.conv x0 x2 x3 x4 ((i 0).val * 4096 + (i 1).val) ((i 2).val + 2816))
          (Spec.conv x0 x2 x3 x4 ((i 0).val * 4096 + (i 1).val) (i 2).val) := by
  rw [val_main_v42_apply, val_main_v41_apply, val_main_v34_apply, val_main_v33_apply, val_main_cst_0_apply, val_main_v40_apply,
    val_main_v39_apply, val_main_cst_2_apply, val_main_v38_apply, val_main_v37_apply, val_main_v36_apply, val_main_v35_apply,
    val_main_cst_1_apply, val_main_v32_apply, val_main_v31_apply, conv_apply, conv_apply]
  show Ideal.ofBits .f32 0x3F000000#32 * Spec.conv x0 x2 x3 x4 ((i 0).val * 4096 + (i 1).val) (2816 + (i 2).val)
      * (Ideal.ofBits .f32 0x3F800000#32 + Ideal.erf (Ideal.div (Spec.conv x0 x2 x3 x4 ((i 0).val * 4096 + (i 1).val) (2816 + (i 2).val))
        (Ideal.sqrt (Ideal.ofBits .f32 0x40000000#32)))) * Spec.conv x0 x2 x3 x4 ((i 0).val * 4096 + (i 1).val) (i 2).val = _
  rw [Spec.ofBits_half, Ideal.ofBits_one_f32, Spec.ofBits_two, sqrt_two, div_sqrt_two, Nat.add_comm 2816]
  rfl

/-- The residual sum. -/
theorem res_apply (i : S4x4096x1024.Idx) :
    val_main_v50 (F := Ideal) x0 x1 x2 x3 x4 x5 x6 i = Spec.res x0 x1 x2 x3 x4 x5 x6 ((i 0).val * 4096 + (i 1).val) (i 2).val := by
  have h0 : (i 0).val < 4 := (i 0).isLt
  have h1 : (i 1).val < 4096 := (i 1).isLt
  have h2 : (i 2).val < 1024 := (i 2).isLt
  rw [val_main_v50_apply, val_main_v47_apply, val_main_v49_apply, val_main_v48_apply, val_main_v44_apply, val_main_v43_apply, val_main_v46_apply]
  unfold Spec.res
  refine congrArg₂ (· + ·) (congrArg x1 (funext fun a => Fin.ext ?_))
    (congrArg₂ (· * ·) (congrArg x6 (funext fun a => Fin.ext ?_)) (Finset.sum_congr rfl fun j _ => ?_))
  · match a with
    | ⟨0, _⟩ => show (((i 0).val * 4096 + (i 1).val) * 1024 + (i 2).val) / 1024 = ((i 0).val * 4096 + (i 1).val) % 16384; omega
    | ⟨1, _⟩ => show (((i 0).val * 4096 + (i 1).val) * 1024 + (i 2).val) % 1024 = (i 2).val % 1024; omega
  · match a with
    | ⟨0, _⟩ => show (i 0).val = ((i 0).val * 4096 + (i 1).val) / 4096 % 8; omega
    | ⟨1, _⟩ => show 5120 + (i 2).val = 5120 + (i 2).val % 1024; omega
  · rw [glu_apply, val_main_v45_apply]
    refine congrArg₂ (· * ·) rfl (congrArg x5 (funext fun a => Fin.ext ?_))
    match a with
    | ⟨0, _⟩ => rfl
    | ⟨1, _⟩ => show (i 2).val = (i 2).val % 1024; omega

/-- The result. -/
theorem out_apply (i : S16384x1024.Idx) :
    val_main_v65 (F := Ideal) x0 x1 x2 x3 x4 x5 x6 x7 i
      = Spec.norm (Spec.res x0 x1 x2 x3 x4 x5 x6) x7 (i 0).val (i 1).val := by
  have h0 : (i 0).val < 16384 := (i 0).isLt
  have h1 : (i 1).val < 1024 := (i 1).isLt
  rw [val_main_v65_apply, val_main_v64_apply, val_main_v60_apply, val_main_v59_apply, val_main_v58_apply, val_main_v57_apply, val_main_v56_apply,
    val_main_cst_5_apply, val_main_v55_apply, val_main_v54_apply, val_main_cst_4_apply, val_main_v53_apply, val_main_v52_apply,
    val_main_cst_3_apply, val_main_v63_apply, val_main_v62_apply, val_main_v61_apply, res_apply]
  simp only [val_main_v51_apply, res_apply]
  have e0 : ((i 0).val * 1024 + (i 1).val) / 4194304 * 4096 + ((i 0).val * 1024 + (i 1).val) / 1024 % 4096 = (i 0).val := by omega
  have e1 : ((i 0).val * 1024 + (i 1).val) % 1024 = (i 1).val := by omega
  show Spec.res x0 x1 x2 x3 x4 x5 x6 (((i 0).val * 1024 + (i 1).val) / 4194304 * 4096 + ((i 0).val * 1024 + (i 1).val) / 1024 % 4096)
        (((i 0).val * 1024 + (i 1).val) % 1024)
      * Ideal.rsqrt (Ideal.div (Ideal.ofBits .f32 0x00000000#32 + ∑ j : Fin 1024,
          Spec.res x0 x1 x2 x3 x4 x5 x6 (((i 0).val * 1024 + (i 1).val) / 4194304 * 4096 + ((i 0).val * 1024 + (i 1).val) / 1024 % 4096) j.val
            * Spec.res x0 x1 x2 x3 x4 x5 x6 (((i 0).val * 1024 + (i 1).val) / 4194304 * 4096 + ((i 0).val * 1024 + (i 1).val) / 1024 % 4096) j.val)
        (Ideal.ofBits .f32 0x44800000#32) + Ideal.ofBits .f32 0x358637BD#32)
      * x7 (idx_main_v61 (idx_main_v62 (idx_main_v63 (idx_main_v65 i)))) = _
  rw [e0, e1, Spec.ofBits_1024, Ideal.ofBits_zero_f32, zero_add, Ideal.div_coe (by norm_num)]
  unfold Spec.norm
  refine congrArg₂ (· * ·) rfl (congrArg x7 (funext fun a => Fin.ext ?_))
  match a with
  | ⟨0, _⟩ => rfl
  | ⟨1, _⟩ => show ((i 0).val * 1024 + (i 1).val) % 1024 % 1024 = (i 1).val % 1024; omega

end Cert.FfnReferenceIdeal.Hand
-- ==== Proof.MergeSpec.lean ====
/- The merge's two results, row by row, as sums of extended reals over the arrays they are read from. -/
module

public import proofs.«01_k».proof.Proof.Spec

@[expose] public section

noncomputable section

namespace Cert.Merge.Spec

open Idealize.ShloMosaic
open Cert.Ffn.Spec (Ix)

variable {n : ℕ}

/-- The two branches, projected and mixed: row `r`, channel `q` of `n` rows. -/
def mixed (og : Ix n 1024 → EReal) (oa : Ix n 256 → EReal) (ma mb : Ix n 1024 → EReal) (wg : Ix 1024 1024 → EReal)
    (wa : Ix 256 1024 → EReal) (r : Fin n) (q : Fin 1024) : EReal :=
  ma (ix2 r q) * (∑ j : Fin 1024, og (ix2 r j) * wg (ix2 j q)) + mb (ix2 r q) * ∑ j : Fin 256, oa (ix2 r j) * wa (ix2 j q)

/-- The residual sum: the row plus the gate times the projection of the mixture. -/
def res (x og : Ix n 1024 → EReal) (oa : Ix n 256 → EReal) (ma mb : Ix n 1024 → EReal) (wg : Ix 1024 1024 → EReal)
    (wa : Ix 256 1024 → EReal) (wo : Ix 1024 1024 → EReal) (g : Fin 1024 → EReal) (r : Fin n) (q : Fin 1024) : EReal :=
  x (ix2 r q) + g q * ∑ k : Fin 1024, mixed og oa ma mb wg wa r k * wo (ix2 k q)

/-- The root mean square norm of the rows of `y`, with its weight, scaled and shifted. -/
def norm (y : Fin n → Fin 1024 → EReal) (w : Ix 1 1024 → EReal) (sc sh : Fin 1024 → EReal) (r : Fin n) (q : Fin 1024) : EReal :=
  y r q * Ideal.rsqrt (Ideal.div (∑ k : Fin 1024, y r k * y r k) (Ideal.ofBits .f32 0x44800000#32) + Ideal.ofBits .f32 0x358637BD#32)
    * (w (ix2 0 q) * (1 + sc q)) + sh q

/-- A norm's row depends on that row alone. -/
theorem norm_eq {n' : ℕ} {y : Fin n → Fin 1024 → EReal} {Y : Fin n' → Fin 1024 → EReal} {w W : Ix 1 1024 → EReal}
    {sc SC sh SH : Fin 1024 → EReal} {r : Fin n} {R : Fin n'} (hy : ∀ q, y r q = Y R q) (hw : w = W) (hsc : ∀ q, sc q = SC q)
    (hsh : ∀ q, sh q = SH q) (q : Fin 1024) : norm y w sc sh r q = norm Y W SC SH R q := by
  unfold norm
  simp only [hy, hw, hsc, hsh]

/-- The 1024 columns from column `k` on of an array. -/
def cols {a b : ℕ} (k : ℕ) (hk : k + 1024 ≤ b) (x : Ix a b → EReal) : Ix a 1024 → EReal :=
  fun i => x (ix2 (i 0) ⟨k + (i 1).val, by have h : (i 1).val < 1024 := (i 1).isLt; omega⟩)

/-- The modulation of the sequence of token `R`: its 1024 columns from column `k` on. -/
def mod (md : Ix 8 6144 → EReal) (k : ℕ) (hk : k + 1024 ≤ 6144) (R : Fin 16384) (q : Fin 1024) : EReal :=
  md (ix2 ⟨R.val / 4096, by omega⟩ ⟨k + q.val, by omega⟩)

/-- The first result: the residual sum of token `R`. -/
def x1 (x og : Ix 16384 1024 → EReal) (oa : Ix 16384 256 → EReal) (mab : Ix 16384 2048 → EReal) (md : Ix 8 6144 → EReal)
    (wg : Ix 1024 1024 → EReal) (wa : Ix 256 1024 → EReal) (wo : Ix 1024 1024 → EReal) (R : Fin 16384) (q : Fin 1024) : EReal :=
  res x og oa (cols 0 (by norm_num) mab) (cols 1024 (by norm_num) mab) wg wa wo (mod md 2048 (by norm_num) R) R q

/-- The second result: the norm of the first, scaled and shifted. -/
def h2 (x og : Ix 16384 1024 → EReal) (oa : Ix 16384 256 → EReal) (mab : Ix 16384 2048 → EReal) (md : Ix 8 6144 → EReal)
    (nw : Ix 1 1024 → EReal) (wg : Ix 1024 1024 → EReal) (wa : Ix 256 1024 → EReal) (wo : Ix 1024 1024 → EReal) (R : Fin 16384)
    (q : Fin 1024) : EReal :=
  norm (x1 x og oa mab md wg wa wo) nw (mod md 4096 (by norm_num) R) (mod md 3072 (by norm_num) R) R q

end Cert.Merge.Spec
-- ==== Proof.MergeTile.lean ====
/- What one tile of the merge writes, in terms of the blocks it holds. -/
module

public import proofs.«01_k».proof.Proof.MergeSpec
public import proofs.«01_k».proof.Proof.Gen.MergeIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeIdeal.Hand

open Cert.MergeIdeal Cert.MergeIdeal.Gen Cert.Merge Idealize.ShloMosaic Idealize.ShloMosaic.TcCoe Idealize.SL.Sem

section
variable (g sc sh w : S1x1024.Idx → EReal) (og ma mb x : S512x1024.Idx → EReal) (oa : S512x256.Idx → EReal)
  (wg wo : S1024x1024.Idx → EReal) (wa : S256x1024.Idx → EReal)

/-- The residual sum of half a tile. -/
abbrev half (r : Fin 512) (q : Fin 1024) : EReal := Spec.res x og oa ma mb wg wa wo (fun q => g (ix2 0 q)) r q

/-- The first half's residual sum is stored as it is. -/
theorem pay4 (i : S512x1024.Idx) :
    k0_pay4 (F := Ideal) g (k0_pay2 oa wa) (k0_pay3 og wg ma) mb x wo i = half g og ma mb x oa wg wo wa (i 0) (i 1) := by
  open_payloads
  pointwise
  exact congrArg (· + _) (congrArg x (eq_ix2 i))

/-- So is the second half's. -/
theorem pay6 (i : S512x1024.Idx) :
    k0_pay6 (F := Ideal) g oa wa og wg ma mb x wo i = half g og ma mb x oa wg wo wa (i 0) (i 1) := by
  open_payloads
  pointwise
  exact congrArg (· + _) (congrArg x (eq_ix2 i))

/-- A half's residual sum is that of the arrays its rows are read from. -/
theorem half_eq {n : ℕ} {X OG MA MB : Cert.Ffn.Spec.Ix n 1024 → EReal} {OA : Cert.Ffn.Spec.Ix n 256 → EReal}
    {WG WO : S1024x1024.Idx → EReal} {WA : S256x1024.Idx → EReal} {G : Fin 1024 → EReal} {r : Fin 512} {R : Fin n}
    (hg : ∀ q, g (ix2 0 q) = G q) (hog : ∀ q, og (ix2 r q) = OG (ix2 R q)) (hma : ∀ q, ma (ix2 r q) = MA (ix2 R q))
    (hmb : ∀ q, mb (ix2 r q) = MB (ix2 R q)) (hx : ∀ q, x (ix2 r q) = X (ix2 R q)) (hoa : ∀ q, oa (ix2 r q) = OA (ix2 R q))
    (hwg : wg = WG) (hwo : wo = WO) (hwa : wa = WA) (q : Fin 1024) :
    half g og ma mb x oa wg wo wa r q = Spec.res X OG OA MA MB WG WA WO G R q := by
  unfold half Spec.res Spec.mixed
  simp only [hg, hog, hma, hmb, hx, hoa, hwg, hwo, hwa]

/-- The normed half of a tile. -/
abbrev normed (r : Fin 512) (q : Fin 1024) : EReal :=
  Spec.norm (half g og ma mb x oa wg wo wa) w (fun q => sc (ix2 0 q)) (fun q => sh (ix2 0 q)) r q

/-- The first half's norm. -/
theorem pay5 (i : S512x1024.Idx) :
    k0_pay5 (F := Ideal) g sc sh (k0_pay2 oa wa) (k0_pay3 og wg ma) mb x wo w i
      = normed g sc sh w og ma mb x oa wg wo wa (i 0) (i 1) := by
  unfold k0_pay5
  pointwise
  simp only [pay4]
  rfl

/-- The second half's norm. -/
theorem pay1 (i : S512x1024.Idx) :
    k0_pay1 (F := Ideal) sc sh (k0_pay6 g oa wa og wg ma mb x wo) w (k0_pay7 g oa wa og wg ma mb x wo)
        (Scalar.ofBits .f32 0x358637BD#32) i
      = normed g sc sh w og ma mb x oa wg wo wa (i 0) (i 1) := by
  unfold k0_pay1 k0_pay7
  pointwise
  simp only [pay6]
  rfl

end

/-- The row of the modulation blocks that tile `n` reads is the number of its sequence. -/
theorem mod_row (t : Fin cfg0.N) : k0_off7 (grid0.coords t) = ![t.val / 4, 0] :=
  (by decide +kernel : ∀ t : Fin grid0.N, k0_off7 (grid0.coords t) = ![t.val / 4, 0]) t

section
variable {s : Shape} {e : EltTy} {arg : Memref sig .tc .vmem s e} (h : arg.IsWhole) (x : s.Idx → Elt Ideal e)

/-- A load of a box from a whole buffer, at an index of the box. -/
theorem read_at {off size : Fin s.rank → ℕ} (inb : ∀ a, off a + size a ≤ s.size a) (j : (Rect.unit off size inb).shape.Idx) (i : s.Idx)
    (hi : ∀ a, (i a).val = off a + 1 * (j a).val) :
    View.readAt (Elt Ideal) arg.view (Rect.unit off size inb).toLoadRect (h.unread x) j = x i := by
  rw [View.readAt_apply, Memref.IsWhole.read_unread]
  exact congrArg x (funext fun a => Fin.ext (hi a).symm)

/-- A load of a box within a box. -/
theorem read_within {off size : Fin s.rank → ℕ} (inb : ∀ a, off a + size a ≤ s.size a) {off' size' : Fin s.rank → ℕ}
    (inb' : ∀ a, off' a + size' a ≤ size a) (h₀) (j : (Rect.unit (s := (Rect.unit off size inb).shape) off' size' inb').shape.Idx) (i : s.Idx)
    (hi : ∀ a, (i a).val = off a + 1 * (off' a + 1 * (j a).val)) :
    View.readAt (Elt Ideal) arg.view ((Rect.unit off size inb).withinL
      (Rect.unit (s := (Rect.unit off size inb).shape) off' size' inb').toLoadRect h₀) (h.unread x) j = x i := by
  show arg.view.read (Elt Ideal) (h.unread x) (((Rect.unit off size inb).withinL
    (Rect.unit (s := (Rect.unit off size inb).shape) off' size' inb').toLoadRect h₀).idx j) = _
  rw [Memref.IsWhole.read_unread, Rect.idx_withinL]
  exact congrArg x (funext fun a => Fin.ext (hi a).symm)

end

/-- A load from a slot of the ring, into which the rows of tile `t` have been copied. -/
theorem read_slot (t : Fin cfg0.N) (k : Fin 3) (b : Fin 16) (hb : b.val = t.val) {c : Dev nD} (x : HbBuf0 (F := Ideal) c hbM0_0)
    {o : ℕ} (inb) (j : S512x1024.Idx) (i : S16384x1024.Idx)
    (h0 : (i 0).val = 1024 * t.val + (o + (j 0).val)) (h1 : (i 1).val = (j 1).val) :
    (rslot0_0 k).view.readCov (Val := Elt Ideal) [⟨Rect.whole S1024x1024, ReadAs.same.apply (View.read (Elt Ideal) (srcB0_0 b).view x)⟩]
      (Rect.unit (s := S1024x1024) ![o, 0] S512x1024.size inb).toLoadRect j = x i := by
  rw [View.readCov_eq_canon']
  unfold Rect.whole
  rw [View.canon_cons_unit_zero rfl]
  unfold srcB0_0
  have hj : (j 0).val < 512 := (j 0).isLt
  show x _ = x i
  refine congrArg x (funext fun a => Fin.ext ?_)
  match a with
  | ⟨0, _⟩ => show 1024 * b.val + 1 * (o + 1 * (j 0).val) = (i 0).val; omega
  | ⟨1, _⟩ => show 0 + 1 * (0 + 1 * (j 1).val) = (i 1).val; omega

end Cert.MergeIdeal.Hand
-- ==== Proof.MergeArray.lean ====
/- The merge's two output arrays are the layer's sums. -/
module

public import proofs.«01_k».proof.Proof.MergeTile
import all proofs.«01_k».proof.Proof.Gen.MergeIdeal.Frame.RunA
import all proofs.«01_k».proof.Proof.Gen.MergeIdeal.Frame.RunB
import all proofs.«01_k».proof.Proof.Gen.MergeIdeal.Frame.RunC

@[expose] public section

set_option maxRecDepth 16384

noncomputable section

namespace Cert.MergeIdeal.Hand

open Cert.MergeIdeal Cert.MergeIdeal.Gen Cert.Merge Idealize.ShloMosaic Idealize.ShloMosaic.TcCoe Idealize.SL.Sem

variable (m : (ℓ : Loc nD τ sig) → Buf (Elt Ideal) ℓ)

/-- A grid point is its coordinate. -/
theorem coord : ∀ t : Fin cfg0.N, (grid0.coords t 0).val = t.val := (by decide +kernel : ∀ t : Fin grid0.N, _)

/-- Which block of its array each window holds at tile `t`. -/
theorem idx : ∀ t : Fin cfg0.N, win0_0.index t = ![t.val, 0] ∧ win0_1.index t = ![t.val, 0] ∧ win0_2.index t = ![t.val, 0]
    ∧ win0_3.index t = ![0, 2] ∧ win0_4.index t = ![0, 4] ∧ win0_5.index t = ![0, 3] ∧ win0_6.index t = ![0, 0]
    ∧ win0_7.index t = ![0, 0] ∧ win0_8.index t = ![0, 0] ∧ win0_9.index t = ![0, 0] ∧ win0_10.index t = ![t.val, 0]
    ∧ win0_11.index t = ![t.val, 0] :=
  (by decide +kernel : ∀ t : Fin grid0.N, _)

variable (c : Dev nD) (t : Fin cfg0.N)

/-- The norm's weight: the block is the whole array. -/
theorem blk6 : iblk m c 6 t = m ((c : Thread nD τ).loc main_arg5) := by
  blk_ext! [iblk, V, idx t]

/-- The weights of the first branch: the block is the whole array. -/
theorem blk7 : iblk m c 7 t = m ((c : Thread nD τ).loc main_arg6) := by
  blk_ext! [iblk, V, idx t]

/-- The weights of the second branch: the block is the whole array. -/
theorem blk8 : iblk m c 8 t = m ((c : Thread nD τ).loc main_arg7) := by
  blk_ext! [iblk, V, idx t]

/-- The output weights: the block is the whole array. -/
theorem blk9 : iblk m c 9 t = m ((c : Thread nD τ).loc main_arg8) := by
  blk_ext! [iblk, V, idx t]

/-- The row of the arrays at row `r` of tile `t`. -/
abbrev rowOf (r : ℕ) (hr : r < 1024) : Fin 16384 := ⟨1024 * t.val + r, by have : t.val < 16 := t.isLt; omega⟩

/-- The tile's rows of the first branch. -/
theorem blk0 (r : ℕ) (hr : r < 1024) (j : Fin 1024) : iblk m c 0 t (ix2 (n0 := 1024) (n1 := 1024) ⟨r, hr⟩ j)
    = m ((c : Thread nD τ).loc main_arg1) (ix2 (n0 := 16384) (n1 := 1024) (rowOf t r hr) j) := by
  have ht : t.val < 16 := t.isLt
  blk_ext [iblk, V, idx t]

/-- The tile's rows of the second branch. -/
theorem blk1 (r : ℕ) (hr : r < 1024) (j : Fin 256) : iblk m c 1 t (ix2 (n0 := 1024) (n1 := 256) ⟨r, hr⟩ j)
    = m ((c : Thread nD τ).loc main_arg2) (ix2 (n0 := 16384) (n1 := 256) (rowOf t r hr) j) := by
  have ht : t.val < 16 := t.isLt
  blk_ext [iblk, V, idx t]

/-- The tile's rows of the mixing gates. -/
theorem blk2 (r : ℕ) (hr : r < 1024) (j : Fin 2048) : iblk m c 2 t (ix2 (n0 := 1024) (n1 := 2048) ⟨r, hr⟩ j)
    = m ((c : Thread nD τ).loc main_arg3) (ix2 (n0 := 16384) (n1 := 2048) (rowOf t r hr) j) := by
  have ht : t.val < 16 := t.isLt
  blk_ext [iblk, V, idx t]

/-- The modulation's columns of the gate. -/
theorem blk3 (b : Fin 8) (j : Fin 1024) : iblk m c 3 t (ix2 (n0 := 8) (n1 := 1024) b j)
    = m ((c : Thread nD τ).loc main_arg4) (ix2 (n0 := 8) (n1 := 6144) b ⟨2048 + j.val, by omega⟩) := by
  blk_ext [iblk, V, idx t]

/-- The modulation's columns of the scale. -/
theorem blk4 (b : Fin 8) (j : Fin 1024) : iblk m c 4 t (ix2 (n0 := 8) (n1 := 1024) b j)
    = m ((c : Thread nD τ).loc main_arg4) (ix2 (n0 := 8) (n1 := 6144) b ⟨4096 + j.val, by omega⟩) := by
  blk_ext [iblk, V, idx t]

/-- The modulation's columns of the shift. -/
theorem blk5 (b : Fin 8) (j : Fin 1024) : iblk m c 5 t (ix2 (n0 := 8) (n1 := 1024) b j)
    = m ((c : Thread nD τ).loc main_arg4) (ix2 (n0 := 8) (n1 := 6144) b ⟨3072 + j.val, by omega⟩) := by
  blk_ext [iblk, V, idx t]

/-- The row of the modulation lies in its block. -/
theorem mod_inb : ∀ a, k0_off7 (grid0.coords t) a + S1x1024.size a ≤ S8x1024.size a :=
  (by decide +kernel : ∀ t : Fin grid0.N, ∀ a, k0_off7 (grid0.coords t) a + S1x1024.size a ≤ S8x1024.size a) t

/-! The loads of a tile: the rows of its modulation, and for half `o` the rows of its blocks. -/

abbrev ldG := View.readAt (Elt Ideal) (ms0_3 t).view (Rect.unit (s := S8x1024) (k0_off7 (grid0.coords t)) S1x1024.size (mod_inb t)).toLoadRect
  ((hs0_3 t).unread (iblk m c 3 t))

abbrev ldSc := View.readAt (Elt Ideal) (ms0_4 t).view (Rect.unit (s := S8x1024) (k0_off7 (grid0.coords t)) S1x1024.size (mod_inb t)).toLoadRect
  ((hs0_4 t).unread (iblk m c 4 t))

abbrev ldSh := View.readAt (Elt Ideal) (ms0_5 t).view (Rect.unit (s := S8x1024) (k0_off7 (grid0.coords t)) S1x1024.size (mod_inb t)).toLoadRect
  ((hs0_5 t).unread (iblk m c 5 t))

abbrev ldW := View.readAt (Elt Ideal) (ms0_6 t).view (Rect.unit (s := S1x1024) ![0, 0] S1x1024.size inb_S1x1024_S1x1024_0_0).toLoadRect
  ((hs0_6 t).unread (iblk m c 6 t))

abbrev ldWg := View.readAt (Elt Ideal) (ms0_7 t).view (Rect.unit (s := S1024x1024) ![0, 0] S1024x1024.size inb_S1024x1024_S1024x1024_0_0).toLoadRect
  ((hs0_7 t).unread (iblk m c 7 t))

abbrev ldWa := View.readAt (Elt Ideal) (ms0_8 t).view (Rect.unit (s := S256x1024) ![0, 0] S256x1024.size inb_S256x1024_S256x1024_0_0).toLoadRect
  ((hs0_8 t).unread (iblk m c 8 t))

abbrev ldWo := View.readAt (Elt Ideal) (ms0_9 t).view (Rect.unit (s := S1024x1024) ![0, 0] S1024x1024.size inb_S1024x1024_S1024x1024_0_0).toLoadRect
  ((hs0_9 t).unread (iblk m c 9 t))

section
variable (o : ℕ) (ho : o + 512 ≤ 1024)
include ho

theorem inbD : ∀ a, (![o, 0] : Fin 2 → ℕ) a + S512x1024.size a ≤ S1024x1024.size a
  | ⟨0, _⟩ => ho
  | ⟨1, _⟩ => by show 0 + 1024 ≤ 1024; omega

theorem inbA : ∀ a, (![o, 0] : Fin 2 → ℕ) a + S512x256.size a ≤ S1024x256.size a
  | ⟨0, _⟩ => ho
  | ⟨1, _⟩ => by show 0 + 256 ≤ 256; omega

abbrev ldOg := View.readAt (Elt Ideal) (ms0_0 t).view (Rect.unit (s := S1024x1024) ![o, 0] S512x1024.size (inbD o ho)).toLoadRect
  ((hs0_0 t).unread (iblk m c 0 t))

abbrev ldOa := View.readAt (Elt Ideal) (ms0_1 t).view (Rect.unit (s := S1024x256) ![o, 0] S512x256.size (inbA o ho)).toLoadRect
  ((hs0_1 t).unread (iblk m c 1 t))

abbrev ldMa := View.readAt (Elt Ideal) (ms0_2 t).view ((Rect.unit (s := S1024x2048) ![0, 0] S1024x1024.size inb_S1024x2048_S1024x1024_0_0).withinL
  (Rect.unit (s := S1024x1024) ![o, 0] S512x1024.size (inbD o ho)).toLoadRect (fun _ => rfl)) ((hs0_2 t).unread (iblk m c 2 t))

abbrev ldMb := View.readAt (Elt Ideal) (ms0_2 t).view ((Rect.unit (s := S1024x2048) ![0, 1024] S1024x1024.size inb_S1024x2048_S1024x1024_0_1024).withinL
  (Rect.unit (s := S1024x1024) ![o, 0] S512x1024.size (inbD o ho)).toLoadRect (fun _ => rfl)) ((hs0_2 t).unread (iblk m c 2 t))

abbrev ldX := (rslot0_0 (Ring.sl 3 t.val)).view.readCov (Val := Elt Ideal)
  [⟨Rect.whole S1024x1024, ReadAs.same.apply (View.read (Elt Ideal) (srcB0_0 (Ring.bk 16 t.val)).view (V m c main_arg0))⟩]
  (Rect.unit (s := S1024x1024) ![o, 0] S512x1024.size (inbD o ho)).toLoadRect

end

/-- What a tile leaves in the first output's block: its halves' sums. -/
def left10 : List (View.Piece (Elt Ideal) S1024x1024 .f32) :=
  [⟨Rect.unit (s := S1024x1024) ![512, 0] S512x1024.size inb_S1024x1024_S512x1024_512_0,
    k0_pay6 (ldG m c t) (ldOa m c t 512 (by norm_num)) (ldWa m c t) (ldOg m c t 512 (by norm_num)) (ldWg m c t)
      (ldMa m c t 512 (by norm_num)) (ldMb m c t 512 (by norm_num)) (ldX m c t 512 (by norm_num)) (ldWo m c t)⟩,
   ⟨Rect.unit (s := S1024x1024) ![0, 0] S512x1024.size inb_S1024x1024_S512x1024_0_0,
    k0_pay4 (ldG m c t) (k0_pay2 (ldOa m c t 0 (by norm_num)) (ldWa m c t))
      (k0_pay3 (ldOg m c t 0 (by norm_num)) (ldWg m c t) (ldMa m c t 0 (by norm_num))) (ldMb m c t 0 (by norm_num))
      (ldX m c t 0 (by norm_num)) (ldWo m c t)⟩]

/-- What it leaves in the second output's block: its halves' norms. -/
def left11 : List (View.Piece (Elt Ideal) S1024x1024 .bf16) :=
  [⟨Rect.unit (s := S1024x1024) ![512, 0] S512x1024.size inb_S1024x1024_S512x1024_512_0,
    k0_pay1 (ldSc m c t) (ldSh m c t)
      (k0_pay6 (ldG m c t) (ldOa m c t 512 (by norm_num)) (ldWa m c t) (ldOg m c t 512 (by norm_num)) (ldWg m c t)
        (ldMa m c t 512 (by norm_num)) (ldMb m c t 512 (by norm_num)) (ldX m c t 512 (by norm_num)) (ldWo m c t))
      (ldW m c t)
      (k0_pay7 (ldG m c t) (ldOa m c t 512 (by norm_num)) (ldWa m c t) (ldOg m c t 512 (by norm_num)) (ldWg m c t)
        (ldMa m c t 512 (by norm_num)) (ldMb m c t 512 (by norm_num)) (ldX m c t 512 (by norm_num)) (ldWo m c t))
      (Scalar.ofBits .f32 0x358637BD#32)⟩,
   ⟨Rect.unit (s := S1024x1024) ![0, 0] S512x1024.size inb_S1024x1024_S512x1024_0_0,
    k0_pay5 (ldG m c t) (ldSc m c t) (ldSh m c t) (k0_pay2 (ldOa m c t 0 (by norm_num)) (ldWa m c t))
      (k0_pay3 (ldOg m c t 0 (by norm_num)) (ldWg m c t) (ldMa m c t 0 (by norm_num))) (ldMb m c t 0 (by norm_num))
      (ldX m c t 0 (by norm_num)) (ldWo m c t) (ldW m c t)⟩]

/-- The first output's block after tile `t`: in each of the three cases, what the halves left. -/
theorem out10 : (outsAt0 m c t.val t.isLt).1 = View.canon (left10 m c t) := by
  have ht : t.val < 16 := t.isLt
  by_cases h0 : t.val % 16 = 0
  · rw [outsAt0_A m c t h0 (by omega)]
    dsimp only
    unfold out0_A_10
    rw [View.read_writes_junk_eq_canon]
    rfl
  · by_cases h1 : t.val < 14
    · rw [outsAt0_B m c t h0 h1]
      dsimp only
      unfold out0_B_10
      rw [View.read_writes_junk_eq_canon]
      rfl
    · rw [outsAt0_C m c t h0 h1]
      dsimp only
      unfold out0_C_10
      rw [View.read_writes_junk_eq_canon]
      rfl

/-- The second output's block after tile `t`. -/
theorem out11 : (outsAt0 m c t.val t.isLt).2 = View.canon (left11 m c t) := by
  have ht : t.val < 16 := t.isLt
  by_cases h0 : t.val % 16 = 0
  · rw [outsAt0_A m c t h0 (by omega)]
    dsimp only
    unfold out0_A_11
    rw [View.read_writes_junk_eq_canon]
    rfl
  · by_cases h1 : t.val < 14
    · rw [outsAt0_B m c t h0 h1]
      dsimp only
      unfold out0_B_11
      rw [View.read_writes_junk_eq_canon]
      rfl
    · rw [outsAt0_C m c t h0 h1]
      dsimp only
      unfold out0_C_11
      rw [View.read_writes_junk_eq_canon]
      rfl

/-! What the loads read, in terms of the argument arrays. -/

/-- A row of a block of the modulation, at the row of the tile's sequence. -/
theorem ld_mod {arg : Memref sig .tc .vmem S8x1024 .f32} (h : arg.IsWhole) (x : S8x1024.Idx → EReal) (md : S8x6144.Idx → EReal) (k : ℕ)
    (hk : k + 1024 ≤ 6144) (hx : ∀ (b : Fin 8) (j : Fin 1024), x (ix2 b j) = md (ix2 (n0 := 8) (n1 := 6144) b ⟨k + j.val, by omega⟩))
    (R : Fin 16384) (hR : R.val / 1024 = t.val) (q : Fin 1024) :
    View.readAt (Elt Ideal) arg.view (Rect.unit (s := S8x1024) (k0_off7 (grid0.coords t)) S1x1024.size (mod_inb t)).toLoadRect
      (h.unread (e := .f32) x) (ix2 (n0 := 1) (n1 := 1024) 0 q) = Spec.mod md k hk R q := by
  refine (read_at h (e := .f32) x (mod_inb t) _ (ix2 ⟨R.val / 4096, by omega⟩ q) fun a => ?_).trans (hx _ q)
  match a with
  | ⟨0, _⟩ =>
    have e : k0_off7 (grid0.coords t) 0 = t.val / 4 := congrFun (mod_row t) 0
    show R.val / 4096 = k0_off7 (grid0.coords t) 0 + 1 * 0
    omega
  | ⟨1, _⟩ =>
    have e : k0_off7 (grid0.coords t) 1 = 0 := congrFun (mod_row t) 1
    show q.val = k0_off7 (grid0.coords t) 1 + 1 * q.val
    omega

/-- A load of a whole block. -/
theorem ld_whole {a b : ℕ} {e : EltTy} {arg : Memref sig .tc .vmem ⟨2, ![a, b]⟩ e} (h : arg.IsWhole) (x : (⟨2, ![a, b]⟩ : Shape).Idx → Elt Ideal e) (inb) :
    View.readAt (Elt Ideal) arg.view (Rect.unit (s := ⟨2, ![a, b]⟩) ![0, 0] (⟨2, ![a, b]⟩ : Shape).size inb).toLoadRect (h.unread x) = x := by
  funext j
  refine read_at h x inb j j fun d => ?_
  match d with
  | ⟨0, _⟩ => show (j 0).val = 0 + 1 * (j 0).val; omega
  | ⟨1, _⟩ => show (j 1).val = 0 + 1 * (j 1).val; omega

section
variable (o : ℕ) (ho : o + 512 ≤ 1024) (r : Fin 512)

/-- The row of the arrays at row `r` of half `o`. -/
abbrev halfRow : Fin 16384 := rowOf t (o + r.val) (by omega)

theorem ldOg_apply (q : Fin 1024) : ldOg m c t o ho (ix2 (n0 := 512) (n1 := 1024) r q)
    = m ((c : Thread nD τ).loc main_arg1) (ix2 (n0 := 16384) (n1 := 1024) (halfRow t o ho r) q) := by
  refine (read_at (hs0_0 t) (iblk m c 0 t) (inbD o ho) _ (ix2 (n0 := 1024) (n1 := 1024) ⟨o + r.val, by omega⟩ q) fun a => ?_).trans (blk0 m c t _ _ q)
  match a with
  | ⟨0, _⟩ => show o + r.val = o + 1 * r.val; omega
  | ⟨1, _⟩ => show q.val = 0 + 1 * q.val; omega

theorem ldOa_apply (q : Fin 256) : ldOa m c t o ho (ix2 (n0 := 512) (n1 := 256) r q)
    = m ((c : Thread nD τ).loc main_arg2) (ix2 (n0 := 16384) (n1 := 256) (halfRow t o ho r) q) := by
  refine (read_at (hs0_1 t) (iblk m c 1 t) (inbA o ho) _ (ix2 (n0 := 1024) (n1 := 256) ⟨o + r.val, by omega⟩ q) fun a => ?_).trans (blk1 m c t _ _ q)
  match a with
  | ⟨0, _⟩ => show o + r.val = o + 1 * r.val; omega
  | ⟨1, _⟩ => show q.val = 0 + 1 * q.val; omega

theorem ldMa_apply (q : Fin 1024) : ldMa m c t o ho (ix2 (n0 := 512) (n1 := 1024) r q)
    = Spec.cols 0 (by norm_num) (m ((c : Thread nD τ).loc main_arg3)) (ix2 (n0 := 16384) (n1 := 1024) (halfRow t o ho r) q) := by
  refine (read_within (hs0_2 t) (iblk m c 2 t) _ (inbD o ho) (fun _ => rfl) _ (ix2 (n0 := 1024) (n1 := 2048) ⟨o + r.val, by omega⟩ ⟨0 + q.val, by omega⟩) fun a => ?_).trans (blk2 m c t _ _ _)
  match a with
  | ⟨0, _⟩ => show o + r.val = 0 + 1 * (o + 1 * r.val); omega
  | ⟨1, _⟩ => show 0 + q.val = 0 + 1 * (0 + 1 * q.val); omega

theorem ldMb_apply (q : Fin 1024) : ldMb m c t o ho (ix2 (n0 := 512) (n1 := 1024) r q)
    = Spec.cols 1024 (by norm_num) (m ((c : Thread nD τ).loc main_arg3)) (ix2 (n0 := 16384) (n1 := 1024) (halfRow t o ho r) q) := by
  refine (read_within (hs0_2 t) (iblk m c 2 t) _ (inbD o ho) (fun _ => rfl) _ (ix2 (n0 := 1024) (n1 := 2048) ⟨o + r.val, by omega⟩ ⟨1024 + q.val, by omega⟩) fun a => ?_).trans (blk2 m c t _ _ _)
  match a with
  | ⟨0, _⟩ => show o + r.val = 0 + 1 * (o + 1 * r.val); omega
  | ⟨1, _⟩ => show 1024 + q.val = 1024 + 1 * (0 + 1 * q.val); omega

theorem ldX_apply (q : Fin 1024) : ldX m c t o ho (ix2 (n0 := 512) (n1 := 1024) r q)
    = m ((c : Thread nD τ).loc main_arg0) (ix2 (n0 := 16384) (n1 := 1024) (halfRow t o ho r) q) :=
  read_slot t _ _ (Ring.bk_val (show t.val < 16 from t.isLt)) _ (inbD o ho) _ _ rfl rfl

/-- The first result, of the arrays the kernel is run on. -/
abbrev x1 (R : Fin 16384) (q : Fin 1024) : EReal :=
  Spec.x1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))
    (m ((c : Thread nD τ).loc main_arg7)) (m ((c : Thread nD τ).loc main_arg8)) R q

/-- The second result. -/
abbrev h2 (R : Fin 16384) (q : Fin 1024) : EReal :=
  Spec.h2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) R q

/-- A half's residual sums are the first result's. -/
theorem half_x1 (q : Fin 1024) : half (ldG m c t) (ldOg m c t o ho) (ldMa m c t o ho) (ldMb m c t o ho) (ldX m c t o ho) (ldOa m c t o ho)
    (ldWg m c t) (ldWo m c t) (ldWa m c t) r q = x1 m c (halfRow t o ho r) q :=
  half_eq _ _ _ _ _ _ _ _ _
    (ld_mod t _ _ _ 2048 (by norm_num) (blk3 m c t) _ (by show (1024 * t.val + (o + r.val)) / 1024 = t.val; omega))
    (ldOg_apply m c t o ho r) (ldMa_apply m c t o ho r) (ldMb_apply m c t o ho r) (ldX_apply m c t o ho r) (ldOa_apply m c t o ho r)
    ((ld_whole _ _ _).trans (blk7 m c t)) ((ld_whole _ _ _).trans (blk9 m c t)) ((ld_whole _ _ _).trans (blk8 m c t)) q

/-- A half's norms are the second result's. -/
theorem half_h2 (q : Fin 1024) : normed (ldG m c t) (ldSc m c t) (ldSh m c t) (ldW m c t) (ldOg m c t o ho) (ldMa m c t o ho) (ldMb m c t o ho)
    (ldX m c t o ho) (ldOa m c t o ho) (ldWg m c t) (ldWo m c t) (ldWa m c t) r q = h2 m c (halfRow t o ho r) q :=
  Spec.norm_eq (half_x1 m c t o ho r) ((ld_whole _ _ _).trans (blk6 m c t))
    (ld_mod t _ _ _ 4096 (by norm_num) (blk4 m c t) _ (by show (1024 * t.val + (o + r.val)) / 1024 = t.val; omega))
    (ld_mod t _ _ _ 3072 (by norm_num) (blk5 m c t) _ (by show (1024 * t.val + (o + r.val)) / 1024 = t.val; omega)) q

end

/-- A result's rows of tile `t`, at a row and column of its half `o`. -/
theorem emb_half (f : Fin 16384 → Fin 1024 → EReal) (o : ℕ) (ho : o + 512 ≤ 1024) (x : S512x1024.Idx) (inb) :
    f (halfRow t o ho (x 0)) (x 1) = (fun j : S1024x1024.Idx => f (rowOf t (j 0).val (j 0).isLt) (j 1))
      ((Rect.unit (s := S1024x1024) ![o, 0] S512x1024.size inb).emb x) := by
  refine congrArg₂ f (Fin.ext ?_) (Fin.ext ?_)
  · show 1024 * t.val + (o + (x 0).val) = 1024 * t.val + (o + 1 * (x 0).val)
    omega
  · show (x 1).val = 0 + 1 * (x 1).val
    omega

/-- The first output's block after tile `t`, at a row and column. -/
theorem block10 (y : S1024x1024.Idx) : (outsAt0 m c t.val t.isLt).1 y = x1 m c (rowOf t (y 0).val (y 0).isLt) (y 1) := by
  rw [out10]
  refine (View.canon_append_of_piecesOf (fun j : S1024x1024.Idx => x1 m c (rowOf t (j 0).val (j 0).isLt) (j 1)) [] (left10 m c t) ?_ y
    (View.cover_of_tiledBy _ ![512, 1024] (by sl_kernel_rfl) y))
  exact ⟨fun (x : S512x1024.Idx) => (pay6 _ _ _ _ _ _ _ _ _ x).trans ((half_x1 m c t 512 (by norm_num) (x 0) (x 1)).trans (emb_half t _ 512 (by norm_num) x (inbD 512 (by norm_num)))),
    fun (x : S512x1024.Idx) => (pay4 _ _ _ _ _ _ _ _ _ x).trans ((half_x1 m c t 0 (by norm_num) (x 0) (x 1)).trans (emb_half t _ 0 (by norm_num) x (inbD 0 (by norm_num)))), trivial⟩

/-- The second output's block after tile `t`, at a row and column. -/
theorem block11 (y : S1024x1024.Idx) : (outsAt0 m c t.val t.isLt).2 y = h2 m c (rowOf t (y 0).val (y 0).isLt) (y 1) := by
  rw [out11]
  refine (View.canon_append_of_piecesOf (fun j : S1024x1024.Idx => h2 m c (rowOf t (j 0).val (j 0).isLt) (j 1)) [] (left11 m c t) ?_ y
    (View.cover_of_tiledBy _ ![512, 1024] (by sl_kernel_rfl) y))
  exact ⟨fun (x : S512x1024.Idx) => (pay1 _ _ _ _ _ _ _ _ _ _ _ _ x).trans ((half_h2 m c t 512 (by norm_num) (x 0) (x 1)).trans (emb_half t _ 512 (by norm_num) x (inbD 512 (by norm_num)))),
    fun (x : S512x1024.Idx) => (pay5 _ _ _ _ _ _ _ _ _ _ _ _ x).trans ((half_h2 m c t 0 (by norm_num) (x 0) (x 1)).trans (emb_half t _ 0 (by norm_num) x (inbD 0 (by norm_num)))), trivial⟩

/-- The first output array after the run. -/
theorem final10 : (dats m 0 c).arrAt 10 cfg0.N = fun i : S16384x1024.Idx => x1 m c (i 0) (i 1) := by
  refine (dats m 0 c).arrAt_eq_of_covers 10 _ (by decide +kernel) fun t hf (y : S1024x1024.Idx) => ?_
  blk_simp
  rw [after0_10]
  have e : win0_10.index t = ![t.val, 0] := (idx t).2.2.2.2.2.2.2.2.2.2.1
  have e0 : win0_10.index t 0 = t.val := congrFun e 0
  have e1 : win0_10.index t 1 = 0 := congrFun e 1
  refine (block10 m c t y).trans (congrArg₂ (x1 m c) (Fin.ext ?_) (Fin.ext ?_))
  · show 1024 * t.val + (y 0).val = win0_10.index t 0 * 1024 + 1 * (y 0).val
    omega
  · show (y 1).val = win0_10.index t 1 * 1024 + 1 * (y 1).val
    omega

/-- The second output array after the run. -/
theorem final11 : (dats m 0 c).arrAt 11 cfg0.N = fun i : S16384x1024.Idx => h2 m c (i 0) (i 1) := by
  refine (dats m 0 c).arrAt_eq_of_covers 11 _ (by decide +kernel) fun t hf (y : S1024x1024.Idx) => ?_
  blk_simp
  rw [after0_11]
  have e : win0_11.index t = ![t.val, 0] := (idx t).2.2.2.2.2.2.2.2.2.2.2
  have e0 : win0_11.index t 0 = t.val := congrFun e 0
  have e1 : win0_11.index t 1 = 0 := congrFun e 1
  refine (block11 m c t y).trans (congrArg₂ (h2 m c) (Fin.ext ?_) (Fin.ext ?_))
  · show 1024 * t.val + (y 0).val = win0_11.index t 0 * 1024 + 1 * (y 0).val
    omega
  · show (y 1).val = win0_11.index t 1 * 1024 + 1 * (y 1).val
    omega

end Cert.MergeIdeal.Hand
-- ==== Proof.MergeReference.lean ====
/- The merge reference's two result arrays are the two results of `MergeSpec`. -/
module

public import proofs.«01_k».proof.Proof.MergeSpec
public import proofs.«01_k».proof.Proof.Gen.MergeReferenceIdeal.Read
public import Idealize.ShloMosaic.Lib.KernelVsHost

@[expose] public section

set_option maxRecDepth 16384

noncomputable section

namespace Cert.MergeReferenceIdeal.Hand

open Cert.MergeReferenceIdeal Cert.MergeReferenceIdeal.Read Cert.Merge Idealize.ShloMosaic Idealize.ShloMosaic.TcCoe Idealize.SL.Sem

variable (x0 : S16384x1024.Idx → EReal) (x1 : S16384x1024.Idx → EReal) (x2 : S16384x256.Idx → EReal) (x3 : S16384x2048.Idx → EReal)
  (x4 : S8x6144.Idx → EReal) (x5 : S1x1024.Idx → EReal) (x6 : S1024x1024.Idx → EReal) (x7 : S256x1024.Idx → EReal) (x8 : S1024x1024.Idx → EReal)

/-- The row of the arrays at a sequence and a position. -/
abbrev row (b : Fin 4) (s : Fin 4096) : Fin 16384 := ⟨b.val * 4096 + s.val, by omega⟩

/-- The first branch, projected. -/
theorem first_apply (i : S4x4096x1024.Idx) : val_main_v15 (F := Ideal) x1 x6 i
    = ∑ j : Fin 1024, x1 (ix2 (n0 := 16384) (n1 := 1024) (row (i 0) (i 1)) j) * x6 (ix2 (n0 := 1024) (n1 := 1024) j (i 2)) := by
  rw [val_main_v15_apply]
  refine Finset.sum_congr rfl fun j _ => ?_
  rw [val_main_v2_apply, val_main_v1_apply, val_main_v14_apply]
  have h0 : (i 0).val < 4 := (i 0).isLt
  have h1 : (i 1).val < 4096 := (i 1).isLt
  refine congrArg₂ (· * ·) (congrArg x1 (funext fun a => Fin.ext ?_)) (congrArg x6 (funext fun a => Fin.ext ?_))
  · have hj := j.isLt
    match a with
    | ⟨0, _⟩ => show (((i 0).val * 4096 + (i 1).val) * 1024 + j.val) / 1024 = (i 0).val * 4096 + (i 1).val; omega
    | ⟨1, _⟩ => show (((i 0).val * 4096 + (i 1).val) * 1024 + j.val) % 1024 = j.val; omega
  · match a with
    | ⟨0, _⟩ => rfl
    | ⟨1, _⟩ => rfl

/-- The second branch, projected. -/
theorem second_apply (i : S4x4096x1024.Idx) : val_main_v19 (F := Ideal) x2 x7 i
    = ∑ j : Fin 256, x2 (ix2 (n0 := 16384) (n1 := 256) (row (i 0) (i 1)) j) * x7 (ix2 (n0 := 256) (n1 := 1024) j (i 2)) := by
  rw [val_main_v19_apply]
  refine Finset.sum_congr rfl fun j _ => ?_
  rw [val_main_v4_apply, val_main_v3_apply, val_main_v18_apply]
  have h0 : (i 0).val < 4 := (i 0).isLt
  have h1 : (i 1).val < 4096 := (i 1).isLt
  refine congrArg₂ (· * ·) (congrArg x2 (funext fun a => Fin.ext ?_)) (congrArg x7 (funext fun a => Fin.ext ?_))
  · have hj := j.isLt
    match a with
    | ⟨0, _⟩ => show (((i 0).val * 4096 + (i 1).val) * 256 + j.val) / 256 = (i 0).val * 4096 + (i 1).val; omega
    | ⟨1, _⟩ => show (((i 0).val * 4096 + (i 1).val) * 256 + j.val) % 256 = j.val; omega
  · match a with
    | ⟨0, _⟩ => rfl
    | ⟨1, _⟩ => rfl

/-- The mixture of the two. -/
theorem mixed_apply (i : S4x4096x1024.Idx) : val_main_v21 (F := Ideal) x1 x2 x3 x6 x7 i
    = Spec.mixed x1 x2 (Spec.cols 0 (by norm_num) x3) (Spec.cols 1024 (by norm_num) x3) x6 x7 (row (i 0) (i 1)) (i 2) := by
  have h0 : (i 0).val < 4 := (i 0).isLt
  have h1 : (i 1).val < 4096 := (i 1).isLt
  have h2 : (i 2).val < 1024 := (i 2).isLt
  rw [val_main_v21_apply, val_main_v16_apply, val_main_v20_apply, first_apply, second_apply, val_main_v13_apply, val_main_v17_apply,
    val_main_v6_apply, val_main_v6_apply, val_main_v5_apply, val_main_v5_apply]
  unfold Spec.mixed
  refine congrArg₂ (· + ·) (congrArg₂ (· * ·) (congrArg x3 (funext fun a => Fin.ext ?_)) rfl)
    (congrArg₂ (· * ·) (congrArg x3 (funext fun a => Fin.ext ?_)) rfl)
  · match a with
    | ⟨0, _⟩ => show (((i 0).val * 4096 + (i 1).val) * 2048 + (i 2).val) / 2048 = (i 0).val * 4096 + (i 1).val; omega
    | ⟨1, _⟩ => show (((i 0).val * 4096 + (i 1).val) * 2048 + (i 2).val) % 2048 = 0 + (i 2).val; omega
  · match a with
    | ⟨0, _⟩ => show (((i 0).val * 4096 + (i 1).val) * 2048 + (1024 + (i 2).val)) / 2048 = (i 0).val * 4096 + (i 1).val; omega
    | ⟨1, _⟩ => show (((i 0).val * 4096 + (i 1).val) * 2048 + (1024 + (i 2).val)) % 2048 = 1024 + (i 2).val; omega

/-- The modulation's three parts. -/
theorem gate_apply (i : S4x4096x1024.Idx) :
    val_main_v24 (F := Ideal) x4 i = Spec.mod x4 2048 (by norm_num) (row (i 0) (i 1)) (i 2) := by
  have h1 : (i 1).val < 4096 := (i 1).isLt
  rw [val_main_v24_apply, val_main_v8_apply, val_main_v7_apply]
  refine congrArg x4 (funext fun a => Fin.ext ?_)
  match a with
  | ⟨0, _⟩ => show (i 0).val = ((i 0).val * 4096 + (i 1).val) / 4096; omega
  | ⟨1, _⟩ => rfl

theorem shift_apply (i : S4x4096x1024.Idx) :
    val_main_v45 (F := Ideal) x4 i = Spec.mod x4 3072 (by norm_num) (row (i 0) (i 1)) (i 2) := by
  have h1 : (i 1).val < 4096 := (i 1).isLt
  rw [val_main_v45_apply, val_main_v10_apply, val_main_v9_apply]
  refine congrArg x4 (funext fun a => Fin.ext ?_)
  match a with
  | ⟨0, _⟩ => show (i 0).val = ((i 0).val * 4096 + (i 1).val) / 4096; omega
  | ⟨1, _⟩ => rfl

theorem scale_apply (i : S4x4096x1024.Idx) :
    val_main_v43 (F := Ideal) x4 i = 1 + Spec.mod x4 4096 (by norm_num) (row (i 0) (i 1)) (i 2) := by
  have h1 : (i 1).val < 4096 := (i 1).isLt
  rw [val_main_v43_apply, val_main_v42_apply, val_main_v41_apply, val_main_cst_2_apply, val_main_v12_apply, val_main_v11_apply]
  refine congrArg₂ (· + ·) Ideal.ofBits_one_f32 (congrArg x4 (funext fun a => Fin.ext ?_))
  match a with
  | ⟨0, _⟩ => show (i 0).val = ((i 0).val * 4096 + (i 1).val) / 4096; omega
  | ⟨1, _⟩ => rfl

/-- The residual sum. -/
theorem res_apply (i : S4x4096x1024.Idx) :
    val_main_v26 (F := Ideal) x0 x1 x2 x3 x4 x6 x7 x8 i = Spec.x1 x0 x1 x2 x3 x4 x6 x7 x8 (row (i 0) (i 1)) (i 2) := by
  have h0 : (i 0).val < 4 := (i 0).isLt
  have h1 : (i 1).val < 4096 := (i 1).isLt
  have h2 : (i 2).val < 1024 := (i 2).isLt
  rw [val_main_v26_apply, val_main_v0_apply, val_main_v25_apply, gate_apply, val_main_v23_apply]
  unfold Spec.x1 Spec.res
  refine congrArg₂ (· + ·) (congrArg x0 (funext fun a => Fin.ext ?_)) (congrArg₂ (· * ·) rfl (Finset.sum_congr rfl fun j _ => ?_))
  · match a with
    | ⟨0, _⟩ => show (((i 0).val * 4096 + (i 1).val) * 1024 + (i 2).val) / 1024 = (i 0).val * 4096 + (i 1).val; omega
    | ⟨1, _⟩ => show (((i 0).val * 4096 + (i 1).val) * 1024 + (i 2).val) % 1024 = (i 2).val; omega
  · rw [mixed_apply, val_main_v22_apply]
    refine congrArg₂ (· * ·) rfl (congrArg x8 (funext fun a => Fin.ext ?_))
    match a with
    | ⟨0, _⟩ => rfl
    | ⟨1, _⟩ => rfl

/-- The norm, scaled and shifted. -/
theorem norm_apply (i : S4x4096x1024.Idx) :
    val_main_v46 (F := Ideal) x0 x1 x2 x3 x4 x5 x6 x7 x8 i = Spec.h2 x0 x1 x2 x3 x4 x5 x6 x7 x8 (row (i 0) (i 1)) (i 2) := by
  rw [val_main_v46_apply, shift_apply, val_main_v44_apply, scale_apply, val_main_v40_apply, val_main_v39_apply, val_main_v38_apply,
    val_main_v37_apply, val_main_v36_apply, res_apply, val_main_v35_apply, val_main_v34_apply, val_main_v33_apply, val_main_v32_apply,
    val_main_cst_1_apply, val_main_v31_apply, val_main_v30_apply, val_main_cst_0_apply, val_main_v29_apply, val_main_v28_apply,
    val_main_cst_apply]
  simp only [val_main_v27_apply, res_apply]
  unfold Spec.h2 Spec.norm
  refine congrArg₂ (· + ·) ((mul_assoc _ _ _).trans (congrArg₂ (· * ·) (congrArg₂ (· * ·) rfl (congrArg Ideal.rsqrt
    (congrArg (· + _) (congrArg (Ideal.div · _) ((congrArg (· + _) Ideal.ofBits_zero_f32).trans (zero_add _)))))) ?_)) rfl
  refine congrArg₂ (· * ·) (congrArg x5 (funext fun a => Fin.ext ?_)) rfl
  match a with
  | ⟨0, _⟩ => rfl
  | ⟨1, _⟩ => exact Nat.mod_eq_of_lt (i 2).isLt

/-- The three coordinates of a row and column of the results. -/
theorem row_eq (i : S16384x1024.Idx) (f : Fin 16384 → Fin 1024 → EReal) (j : S4x4096x1024.Idx)
    (j0 : (j 0).val = ((i 0).val * 1024 + (i 1).val) / 4194304) (j1 : (j 1).val = ((i 0).val * 1024 + (i 1).val) / 1024 % 4096)
    (j2 : (j 2).val = ((i 0).val * 1024 + (i 1).val) % 1024) : f (row (j 0) (j 1)) (j 2) = f (i 0) (i 1) := by
  have h0 : (i 0).val < 16384 := (i 0).isLt
  have h1 : (i 1).val < 1024 := (i 1).isLt
  refine congrArg₂ f (Fin.ext ?_) (Fin.ext ?_)
  · show (j 0).val * 4096 + (j 1).val = (i 0).val
    omega
  · show (j 2).val = (i 1).val
    omega

/-- The first result. -/
theorem out0_apply (i : S16384x1024.Idx) :
    val_main_v47 (F := Ideal) x0 x1 x2 x3 x4 x6 x7 x8 i = Spec.x1 x0 x1 x2 x3 x4 x6 x7 x8 (i 0) (i 1) := by
  rw [val_main_v47_apply, res_apply]
  exact row_eq i _ _ rfl rfl rfl

/-- The second result. -/
theorem out1_apply (i : S16384x1024.Idx) :
    val_main_v49 (F := Ideal) x0 x1 x2 x3 x4 x5 x6 x7 x8 i = Spec.h2 x0 x1 x2 x3 x4 x5 x6 x7 x8 (i 0) (i 1) := by
  rw [val_main_v49_apply, val_main_v48_apply]
  exact (norm_apply x0 x1 x2 x3 x4 x5 x6 x7 x8 _).trans (row_eq i _ _ rfl rfl rfl)

end Cert.MergeReferenceIdeal.Hand
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReference
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.FfnReference.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergeReference
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Gen.MergeReference.Run
public import proofs.«01_k».proof.Proof.Array
public import proofs.«01_k».proof.Proof.Reference
public import proofs.«01_k».proof.Proof.MergeArray
public import proofs.«01_k».proof.Proof.MergeReference
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments as they were and has no counter to leave above zero, in exact arithmetic. -/
theorem frame_reference_ideal : Cert.quiescent_FfnReferenceIdeal (hFfnReferenceIdeal := Cert.FfnReferenceIdeal.Gen.facts) := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The same on bit patterns. -/
theorem frame_reference : Cert.quiescent_FfnReference (hFfnReference := Cert.FfnReference.Gen.facts) := fun m ρ _ =>
  (θ_run Cert.FfnReference.defs _ _).mono (fun r h => ⟨fun c => (h c).2, sem_eq_zero_of_no_sems (by decide) r.2⟩)
    (Cert.FfnReference.Value.run (F := Bits) m ρ)

/-- In exact arithmetic the kernel and the reference, run on the same arguments, end with the same result: the layer's
    normalised residual sum of `Spec`. -/
theorem algebraic : Cert.algebraic_FfnIdeal_FfnReferenceIdeal (hFfnIdeal := Cert.FfnIdeal.Gen.facts)
    (hFfnReferenceIdeal := Cert.FfnReferenceIdeal.Gen.facts) := by
  intro m ρ m' ρ' _ hagree
  refine ⟨fun c => (Cert.FfnIdeal.Gen.dats m 0 c).arrAt 9 Cert.FfnIdeal.cfg0.N, Cert.FfnIdeal.Value.run_blocks m ρ, ?_⟩
  refine (θ_run Cert.FfnReferenceIdeal.defs _ _).mono (fun r h c => ⟨(h c).1.trans ?_, (h c).2⟩)
    (Cert.FfnReferenceIdeal.Value.run (F := Ideal) m' ρ')
  obtain ⟨h0, h1, h2, h3, h4, h5, h6, h7⟩ := hagree c
  refine Eq.trans ?_ (Cert.FfnIdeal.Hand.final m c).symm
  rw [Cert.FfnReferenceIdeal.Read.val_main_v65_eq, h0, h1, h2, h3, h4, h5, h6, h7]
  exact funext fun i => Cert.FfnReferenceIdeal.Hand.out_apply _ _ _ _ _ _ _ _ i

/-- The merge's reference runs, leaves its arguments as they were and has no counter to leave above zero, in exact arithmetic. -/
theorem merge_frame_reference_ideal : Cert.quiescent_MergeReferenceIdeal (hMergeReferenceIdeal := Cert.MergeReferenceIdeal.Gen.facts) := fun m ρ _ =>
  (θ_run Cert.MergeReferenceIdeal.defs _ _).mono (fun r h => ⟨fun c => (h c).2.2, sem_eq_zero_of_no_sems (by decide) r.2⟩)
    (Cert.MergeReferenceIdeal.Value.run (F := Ideal) m ρ)

/-- The same on bit patterns. -/
theorem merge_frame_reference : Cert.quiescent_MergeReference (hMergeReference := Cert.MergeReference.Gen.facts) := fun m ρ _ =>
  (θ_run Cert.MergeReference.defs _ _).mono (fun r h => ⟨fun c => (h c).2.2, sem_eq_zero_of_no_sems (by decide) r.2⟩)
    (Cert.MergeReference.Value.run (F := Bits) m ρ)

/-- In exact arithmetic the merge and its reference, run on the same arguments, end with the same two results: the residual
    sum and its norm, scaled and shifted, of `MergeSpec`. -/
theorem merge_algebraic : Cert.algebraic_MergeIdeal_MergeReferenceIdeal (hMergeIdeal := Cert.MergeIdeal.Gen.facts)
    (hMergeReferenceIdeal := Cert.MergeReferenceIdeal.Gen.facts) := by
  intro m ρ m' ρ' _ hagree
  refine ⟨fun c => (Cert.MergeIdeal.Gen.dats m 0 c).arrAt 10 Cert.MergeIdeal.cfg0.N,
    fun c => (Cert.MergeIdeal.Gen.dats m 0 c).arrAt 11 Cert.MergeIdeal.cfg0.N, Cert.MergeIdeal.Value.run_blocks m ρ, ?_⟩
  refine (θ_run Cert.MergeReferenceIdeal.defs _ _).mono (fun r h c => ⟨(h c).1.trans ?_, (h c).2.1.trans ?_, (h c).2.2⟩)
    (Cert.MergeReferenceIdeal.Value.run (F := Ideal) m' ρ')
  · obtain ⟨h0, h1, h2, h3, h4, h5, h6, h7, h8⟩ := hagree c
    refine Eq.trans ?_ (Cert.MergeIdeal.Hand.final10 m c).symm
    rw [Cert.MergeReferenceIdeal.Read.val_main_v47_eq, h0, h1, h2, h3, h4, h6, h7, h8]
    exact funext fun i => Cert.MergeReferenceIdeal.Hand.out0_apply _ _ _ _ _ _ _ _ i
  · obtain ⟨h0, h1, h2, h3, h4, h5, h6, h7, h8⟩ := hagree c
    refine Eq.trans ?_ (Cert.MergeIdeal.Hand.final11 m c).symm
    rw [Cert.MergeReferenceIdeal.Read.val_main_v49_eq, h0, h1, h2, h3, h4, h5, h6, h7, h8]
    exact funext fun i => Cert.MergeReferenceIdeal.Hand.out1_apply _ _ _ _ _ _ _ _ _ i

/-- Every claim of the certificate. -/
theorem claim : Cert.Claim := ⟨Cert.Ffn.Gen.facts, Cert.FfnIdeal.Gen.facts, Cert.FfnReferenceIdeal.Gen.facts, Cert.FfnReference.Gen.facts,
  Cert.Merge.Gen.facts, Cert.MergeIdeal.Gen.facts, Cert.MergeReferenceIdeal.Gen.facts, Cert.MergeReference.Gen.facts,
  fun m ρ _ => Cert.Ffn.Gen.frame m ρ, fun m ρ _ => Cert.FfnIdeal.Gen.frame m ρ, frame_reference_ideal, frame_reference,
  fun m ρ _ => Cert.Merge.Gen.frame m ρ, fun m ρ _ => Cert.MergeIdeal.Gen.frame m ρ, merge_frame_reference_ideal, merge_frame_reference,
  IdealRules.named_const.statement Cert.FfnIdeal.κ "sqrt_half" .f32 0x3F3504F3#32 _ rfl, trivial, algebraic, trivial, trivial, merge_algebraic⟩

end Cert.Proof

end
